-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![3072, 1536]⟩ ⟨2, ![24576, 1536]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3072x1536 : Shape := ⟨2, ![3072, 1536]⟩
abbrev S1536x3072 : Shape := ⟨2, ![1536, 3072]⟩
abbrev S24576x3072 : Shape := ⟨2, ![24576, 3072]⟩
abbrev S2x3072x1536 : Shape := ⟨3, ![2, 3072, 1536]⟩
abbrev S3072x3072 : Shape := ⟨2, ![3072, 3072]⟩
abbrev S2 : Shape := ⟨1, ![2]⟩
abbrev S2x2 : Shape := ⟨2, ![2, 2]⟩
abbrev S_ : Shape := ⟨0, ![]⟩
abbrev S1x1 : Shape := ⟨2, ![1, 1]⟩
abbrev S1x3072x1536 : Shape := ⟨3, ![1, 3072, 1536]⟩
abbrev S1 : Shape := ⟨1, ![1]⟩
abbrev S1x1536x1536 : Shape := ⟨3, ![1, 1536, 1536]⟩
abbrev S1536x1536 : Shape := ⟨2, ![1536, 1536]⟩

abbrev nBuf : Space → Nat
  | .hbm => 3
  | .vmem => 3
  | .smem => 0
  | _ => 0

abbrev bufTy : (tb : Table) → Fin (tcTables nBuf tb) → BufTy
  | .hbm, ⟨0, _⟩ => ⟨S3072x1536, .bf16⟩
  | .hbm, ⟨1, _⟩ => ⟨S1536x3072, .bf16⟩
  | .hbm, ⟨2, _⟩ => ⟨S24576x3072, .bf16⟩
  | .local _ .vmem, ⟨0, _⟩ => ⟨S1536x3072, .bf16⟩
  | .local _ .vmem, ⟨1, _⟩ => ⟨S2x3072x1536, .bf16⟩
  | .local _ .vmem, ⟨2, _⟩ => ⟨S3072x3072, .bf16⟩
  | _, _ => ⟨S3072x1536, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 3 → Bool
  | ⟨0, _⟩ => true
  | ⟨1, _⟩ => true
  | ⟨2, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 3 13 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_10 : BitVec 32 := 1#32
  let v13 : BitVec 32 := Scalar.muli v5 c1_i32_10
  let v14 : BitVec 32 := Scalar.addi c0_i32_11 v13
  v14.toNat
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_13 : BitVec 32 := 1#32
  let v15 : BitVec 32 := Scalar.muli v7 c1_i32_13
  let v16 : BitVec 32 := Scalar.addi c0_i32_14 v15
  v16.toNat
@[reducible] def k0_t1_loop : Scf.Loop 32 :=
  let c0_i32_20 : BitVec 32 := 0#32
  let c7_i32 : BitVec 32 := 7#32
  let v21 : BitVec 32 := Scalar.addi c0_i32_20 c7_i32
  let c1_i32_21 : BitVec 32 := 1#32
  ⟨c0_i32_20, v21, c1_i32_21⟩
def k0_off1 (k0_t1 : Fin k0_t1_loop.trips) : Fin 1 → Nat :=
  let c0_i32_20 : BitVec 32 := 0#32
  let c1_i32_21 : BitVec 32 := 1#32
  let arg12 : BitVec 32 := Scf.iv c0_i32_20 c1_i32_21 k0_t1
  let c2_i32_146 : BitVec 32 := 2#32
  let v144 : BitVec 32 := Scalar.remsi arg12 c2_i32_146
  ![v144.toNat]
def k0_off2 (k0_t1 : Fin k0_t1_loop.trips) : Fin 1 → Nat :=
  let c0_i32_20 : BitVec 32 := 0#32
  let c1_i32_21 : BitVec 32 := 1#32
  let arg12 : BitVec 32 := Scf.iv c0_i32_20 c1_i32_21 k0_t1
  let c1_i32_147 : BitVec 32 := 1#32
  let v145 : BitVec 32 := Scalar.addi arg12 c1_i32_147
  let c2_i32_148 : BitVec 32 := 2#32
  let v146 : BitVec 32 := Scalar.remsi v145 c2_i32_148
  ![v146.toNat]
def k0_off3 (k0_t1 : Fin k0_t1_loop.trips) : Fin 3 → Nat :=
  let c0_i32_20 : BitVec 32 := 0#32
  let c1_i32_21 : BitVec 32 := 1#32
  let arg12 : BitVec 32 := Scf.iv c0_i32_20 c1_i32_21 k0_t1
  let c1_i32_147 : BitVec 32 := 1#32
  let v145 : BitVec 32 := Scalar.addi arg12 c1_i32_147
  let c2_i32_148 : BitVec 32 := 2#32
  let v146 : BitVec 32 := Scalar.remsi v145 c2_i32_148
  let c0_i32_153 : BitVec 32 := 0#32
  let c0_i32_154 : BitVec 32 := 0#32
  ![v146.toNat, 0, 0]
def k0_off4 (k0_t1 : Fin k0_t1_loop.trips) : Fin 3 → Nat :=
  let c0_i32_20 : BitVec 32 := 0#32
  let c1_i32_21 : BitVec 32 := 1#32
  let arg12 : BitVec 32 := Scf.iv c0_i32_20 c1_i32_21 k0_t1
  let c2_i32_146 : BitVec 32 := 2#32
  let v144 : BitVec 32 := Scalar.remsi arg12 c2_i32_146
  let c0_i32_155 : BitVec 32 := 0#32
  let c0_i32_156 : BitVec 32 := 0#32
  ![v144.toNat, 0, 0]
def k0_dev3 (d0 : Dev nD) : Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_151 : BitVec 32 := 1#32
  let v150 : BitVec 32 := Scalar.muli v7 c1_i32_151
  let v151 : BitVec 32 := Scalar.addi c0_i32_152 v150
  v151.toNat
def k0_off5 (k0_t1 : Fin k0_t1_loop.trips) : Fin 3 → Nat :=
  let c0_i32_20 : BitVec 32 := 0#32
  let c1_i32_21 : BitVec 32 := 1#32
  let arg12 : BitVec 32 := Scf.iv c0_i32_20 c1_i32_21 k0_t1
  let c1_i32_147 : BitVec 32 := 1#32
  let v145 : BitVec 32 := Scalar.addi arg12 c1_i32_147
  let c2_i32_148 : BitVec 32 := 2#32
  let v146 : BitVec 32 := Scalar.remsi v145 c2_i32_148
  let c1536_i32_159 : BitVec 32 := 1536#32
  let c0_i32_160 : BitVec 32 := 0#32
  ![v146.toNat, 1536, 0]
def k0_off6 (k0_t1 : Fin k0_t1_loop.trips) : Fin 3 → Nat :=
  let c0_i32_20 : BitVec 32 := 0#32
  let c1_i32_21 : BitVec 32 := 1#32
  let arg12 : BitVec 32 := Scf.iv c0_i32_20 c1_i32_21 k0_t1
  let c2_i32_146 : BitVec 32 := 2#32
  let v144 : BitVec 32 := Scalar.remsi arg12 c2_i32_146
  let c1536_i32_161 : BitVec 32 := 1536#32
  let c0_i32_162 : BitVec 32 := 0#32
  ![v144.toNat, 1536, 0]
def k0_dev4 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_157 : BitVec 32 := 1#32
  let v160 : BitVec 32 := Scalar.muli v5 c1_i32_157
  let v161 : BitVec 32 := Scalar.addi c0_i32_158 v160
  v161.toNat
def k0_cond2 (k0_t1 : Fin k0_t1_loop.trips) : BitVec 1 :=
  let c0_i32_20 : BitVec 32 := 0#32
  let c1_i32_21 : BitVec 32 := 1#32
  let arg12 : BitVec 32 := Scf.iv c0_i32_20 c1_i32_21 k0_t1
  let c1_i32_172 : BitVec 32 := 1#32
  let v183 : BitVec 1 := Scalar.cmpi .sge arg12 c1_i32_172
  let v184 : BitVec 32 := Scalar.extui v183
  let c0_i32_173 : BitVec 32 := 0#32
  let v185 : BitVec 1 := Scalar.cmpi .ne v184 c0_i32_173
  v185

def k0_off7 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let c1_i32_21 : BitVec 32 := 1#32
  let arg12 : BitVec 32 := Scf.iv c0_i32_20 c1_i32_21 k0_t1
  let c1_i32_166 : BitVec 32 := 1#32
  let v175 : BitVec 32 := Scalar.subi arg12 c1_i32_166
  let v176 : BitVec 32 := Scalar.subi v2 v175
  let c8_i32_167 : BitVec 32 := 8#32
  let v177 : BitVec 32 := Scalar.addi v176 c8_i32_167
  let c8_i32_168 : BitVec 32 := 8#32
  let v178 : BitVec 32 := Scalar.remsi v177 c8_i32_168
  let c3072_i32_255 : BitVec 32 := 3072#32
  let v285 : BitVec 32 := Scalar.muli v178 c3072_i32_255
  let c0_i32_258 : BitVec 32 := 0#32
  ![v285.toNat, 0]
def k0_off8 (k0_t1 : Fin k0_t1_loop.trips) : Fin 3 → Nat :=
  let c0_i32_20 : BitVec 32 := 0#32
  let c1_i32_21 : BitVec 32 := 1#32
  let arg12 : BitVec 32 := Scf.iv c0_i32_20 c1_i32_21 k0_t1
  let c2_i32_146 : BitVec 32 := 2#32
  let v144 : BitVec 32 := Scalar.remsi arg12 c2_i32_146
  let v186 : Index := Scalar.indexCast v144
  let c0_174 : Index := 0#32
  let c0_175 : Index := 0#32
  ![v186.toNat, 0, 0]
def k0_off9 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let c1_i32_21 : BitVec 32 := 1#32
  let arg12 : BitVec 32 := Scf.iv c0_i32_20 c1_i32_21 k0_t1
  let v170 : BitVec 32 := Scalar.subi v2 arg12
  let c8_i32_163 : BitVec 32 := 8#32
  let v171 : BitVec 32 := Scalar.addi v170 c8_i32_163
  let c8_i32_164 : BitVec 32 := 8#32
  let v172 : BitVec 32 := Scalar.remsi v171 c8_i32_164
  let c3072_i32_181 : BitVec 32 := 3072#32
  let v196 : BitVec 32 := Scalar.muli v172 c3072_i32_181
  let c0_i32_184 : BitVec 32 := 0#32
  ![v196.toNat, 0]
def k0_cond3 (k0_t1 : Fin k0_t1_loop.trips) : BitVec 1 :=
  let c0_i32_20 : BitVec 32 := 0#32
  let c1_i32_21 : BitVec 32 := 1#32
  let arg12 : BitVec 32 := Scf.iv c0_i32_20 c1_i32_21 k0_t1
  let c1_i32_172 : BitVec 32 := 1#32
  let v183 : BitVec 1 := Scalar.cmpi .sge arg12 c1_i32_172
  let v201 : BitVec 32 := Scalar.extui v183
  let c0_i32_187 : BitVec 32 := 0#32
  let v202 : BitVec 1 := Scalar.cmpi .ne v201 c0_i32_187
  v202

def k0_off10 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let c1_i32_21 : BitVec 32 := 1#32
  let arg12 : BitVec 32 := Scf.iv c0_i32_20 c1_i32_21 k0_t1
  let c1_i32_169 : BitVec 32 := 1#32
  let v179 : BitVec 32 := Scalar.subi arg12 c1_i32_169
  let v180 : BitVec 32 := Scalar.addi v2 v179
  let c8_i32_170 : BitVec 32 := 8#32
  let v181 : BitVec 32 := Scalar.addi v180 c8_i32_170
  let c8_i32_171 : BitVec 32 := 8#32
  let v182 : BitVec 32 := Scalar.remsi v181 c8_i32_171
  let c3072_i32_255 : BitVec 32 := 3072#32
  let v285 : BitVec 32 := Scalar.muli v182 c3072_i32_255
  let c1536_i32_256 : BitVec 32 := 1536#32
  let v286 : BitVec 32 := Scalar.addi v285 c1536_i32_256
  let c0_i32_259 : BitVec 32 := 0#32
  ![v286.toNat, 0]
def k0_off11 (k0_t1 : Fin k0_t1_loop.trips) : Fin 3 → Nat :=
  let c0_i32_20 : BitVec 32 := 0#32
  let c1_i32_21 : BitVec 32 := 1#32
  let arg12 : BitVec 32 := Scf.iv c0_i32_20 c1_i32_21 k0_t1
  let c2_i32_146 : BitVec 32 := 2#32
  let v144 : BitVec 32 := Scalar.remsi arg12 c2_i32_146
  let v203 : Index := Scalar.indexCast v144
  let c1536_188 : Index := 1536#32
  let c0_189 : Index := 0#32
  ![v203.toNat, 1536, 0]
def k0_off12 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let c1_i32_21 : BitVec 32 := 1#32
  let arg12 : BitVec 32 := Scf.iv c0_i32_20 c1_i32_21 k0_t1
  let v173 : BitVec 32 := Scalar.addi v2 arg12
  let c8_i32_165 : BitVec 32 := 8#32
  let v174 : BitVec 32 := Scalar.remsi v173 c8_i32_165
  let c3072_i32_195 : BitVec 32 := 3072#32
  let v213 : BitVec 32 := Scalar.muli v174 c3072_i32_195
  let c1536_i32_196 : BitVec 32 := 1536#32
  let v214 : BitVec 32 := Scalar.addi v213 c1536_i32_196
  let c0_i32_199 : BitVec 32 := 0#32
  ![v214.toNat, 0]
def k0_cond4 (k0_t1 : Fin k0_t1_loop.trips) : BitVec 1 :=
  let c0_i32_20 : BitVec 32 := 0#32
  let c1_i32_21 : BitVec 32 := 1#32
  let arg12 : BitVec 32 := Scf.iv c0_i32_20 c1_i32_21 k0_t1
  let c1_i32_172 : BitVec 32 := 1#32
  let v183 : BitVec 1 := Scalar.cmpi .sge arg12 c1_i32_172
  let v219 : BitVec 32 := Scalar.extui v183
  let c0_i32_202 : BitVec 32 := 0#32
  let v220 : BitVec 1 := Scalar.cmpi .ne v219 c0_i32_202
  v220

def k0_off13 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let c1_i32_21 : BitVec 32 := 1#32
  let arg12 : BitVec 32 := Scf.iv c0_i32_20 c1_i32_21 k0_t1
  let c1_i32_166 : BitVec 32 := 1#32
  let v175 : BitVec 32 := Scalar.subi arg12 c1_i32_166
  let v176 : BitVec 32 := Scalar.subi v2 v175
  let c8_i32_167 : BitVec 32 := 8#32
  let v177 : BitVec 32 := Scalar.addi v176 c8_i32_167
  let c8_i32_168 : BitVec 32 := 8#32
  let v178 : BitVec 32 := Scalar.remsi v177 c8_i32_168
  let c3072_i32_255 : BitVec 32 := 3072#32
  let v285 : BitVec 32 := Scalar.muli v178 c3072_i32_255
  let c1536_i32_258 : BitVec 32 := 1536#32
  ![v285.toNat, 1536]
def k0_off14 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let c1_i32_21 : BitVec 32 := 1#32
  let arg12 : BitVec 32 := Scf.iv c0_i32_20 c1_i32_21 k0_t1
  let v170 : BitVec 32 := Scalar.subi v2 arg12
  let c8_i32_163 : BitVec 32 := 8#32
  let v171 : BitVec 32 := Scalar.addi v170 c8_i32_163
  let c8_i32_164 : BitVec 32 := 8#32
  let v172 : BitVec 32 := Scalar.remsi v171 c8_i32_164
  let c3072_i32_210 : BitVec 32 := 3072#32
  let v231 : BitVec 32 := Scalar.muli v172 c3072_i32_210
  let c1536_i32_213 : BitVec 32 := 1536#32
  ![v231.toNat, 1536]
def k0_cond5 (k0_t1 : Fin k0_t1_loop.trips) : BitVec 1 :=
  let c0_i32_20 : BitVec 32 := 0#32
  let c1_i32_21 : BitVec 32 := 1#32
  let arg12 : BitVec 32 := Scf.iv c0_i32_20 c1_i32_21 k0_t1
  let c1_i32_172 : BitVec 32 := 1#32
  let v183 : BitVec 1 := Scalar.cmpi .sge arg12 c1_i32_172
  let v236 : BitVec 32 := Scalar.extui v183
  let c0_i32_216 : BitVec 32 := 0#32
  let v237 : BitVec 1 := Scalar.cmpi .ne v236 c0_i32_216
  v237

def k0_off15 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let c1_i32_21 : BitVec 32 := 1#32
  let arg12 : BitVec 32 := Scf.iv c0_i32_20 c1_i32_21 k0_t1
  let c1_i32_169 : BitVec 32 := 1#32
  let v179 : BitVec 32 := Scalar.subi arg12 c1_i32_169
  let v180 : BitVec 32 := Scalar.addi v2 v179
  let c8_i32_170 : BitVec 32 := 8#32
  let v181 : BitVec 32 := Scalar.addi v180 c8_i32_170
  let c8_i32_171 : BitVec 32 := 8#32
  let v182 : BitVec 32 := Scalar.remsi v181 c8_i32_171
  let c3072_i32_255 : BitVec 32 := 3072#32
  let v285 : BitVec 32 := Scalar.muli v182 c3072_i32_255
  let c1536_i32_256 : BitVec 32 := 1536#32
  let v286 : BitVec 32 := Scalar.addi v285 c1536_i32_256
  let c1536_i32_259 : BitVec 32 := 1536#32
  ![v286.toNat, 1536]
def k0_off16 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let c1_i32_21 : BitVec 32 := 1#32
  let arg12 : BitVec 32 := Scf.iv c0_i32_20 c1_i32_21 k0_t1
  let v173 : BitVec 32 := Scalar.addi v2 arg12
  let c8_i32_165 : BitVec 32 := 8#32
  let v174 : BitVec 32 := Scalar.remsi v173 c8_i32_165
  let c3072_i32_224 : BitVec 32 := 3072#32
  let v248 : BitVec 32 := Scalar.muli v174 c3072_i32_224
  let c1536_i32_225 : BitVec 32 := 1536#32
  let v249 : BitVec 32 := Scalar.addi v248 c1536_i32_225
  let c1536_i32_228 : BitVec 32 := 1536#32
  ![v249.toNat, 1536]
def k0_cond6 (k0_t1 : Fin k0_t1_loop.trips) : BitVec 1 :=
  let c0_i32_20 : BitVec 32 := 0#32
  let c1_i32_21 : BitVec 32 := 1#32
  let arg12 : BitVec 32 := Scf.iv c0_i32_20 c1_i32_21 k0_t1
  let c6_i32_241 : BitVec 32 := 6#32
  let v266 : BitVec 1 := Scalar.cmpi .slt arg12 c6_i32_241
  let v267 : BitVec 32 := Scalar.extui v266
  let c0_i32_242 : BitVec 32 := 0#32
  let v268 : BitVec 1 := Scalar.cmpi .ne v267 c0_i32_242
  v268

def k0_dev5 (d0 : Dev nD) : Nat :=
  let c0_i32_257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_256 : BitVec 32 := 1#32
  let v285 : BitVec 32 := Scalar.muli v5 c1_i32_256
  let v286 : BitVec 32 := Scalar.addi c0_i32_257 v285
  v286.toNat
def k0_dev6 (d0 : Dev nD) : Nat :=
  let c0_i32_260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_259 : BitVec 32 := 1#32
  let v287 : BitVec 32 := Scalar.muli v7 c1_i32_259
  let v288 : BitVec 32 := Scalar.addi c0_i32_260 v287
  v288.toNat
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v27 : BitVec 32 := Scalar.subi v2 c6_i32
  let c8_i32_28 : BitVec 32 := 8#32
  let v28 : BitVec 32 := Scalar.addi v27 c8_i32_28
  let c8_i32_29 : BitVec 32 := 8#32
  let v29 : BitVec 32 := Scalar.remsi v28 c8_i32_29
  let c3072_i32 : BitVec 32 := 3072#32
  let v32 : BitVec 32 := Scalar.muli v29 c3072_i32
  let c0_i32_34 : BitVec 32 := 0#32
  ![v32.toNat, 0]
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_23 : BitVec 32 := 1#32
  let v22 : BitVec 32 := Scalar.addi v2 c1_i32_23
  let c8_i32_24 : BitVec 32 := 8#32
  let v23 : BitVec 32 := Scalar.remsi v22 c8_i32_24
  let c3072_i32_42 : BitVec 32 := 3072#32
  let v46 : BitVec 32 := Scalar.muli v23 c3072_i32_42
  let c0_i32_45 : BitVec 32 := 0#32
  ![v46.toNat, 0]
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_30 : BitVec 32 := 6#32
  let v30 : BitVec 32 := Scalar.addi v2 c6_i32_30
  let c8_i32_31 : BitVec 32 := 8#32
  let v31 : BitVec 32 := Scalar.remsi v30 c8_i32_31
  let c3072_i32_48 : BitVec 32 := 3072#32
  let v51 : BitVec 32 := Scalar.muli v31 c3072_i32_48
  let c1536_i32 : BitVec 32 := 1536#32
  let v52 : BitVec 32 := Scalar.addi v51 c1536_i32
  let c0_i32_51 : BitVec 32 := 0#32
  ![v52.toNat, 0]
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_25 : BitVec 32 := 8#32
  let v24 : BitVec 32 := Scalar.addi v2 c8_i32_25
  let c1_i32_26 : BitVec 32 := 1#32
  let v25 : BitVec 32 := Scalar.subi v24 c1_i32_26
  let c8_i32_27 : BitVec 32 := 8#32
  let v26 : BitVec 32 := Scalar.remsi v25 c8_i32_27
  let c3072_i32_61 : BitVec 32 := 3072#32
  let v66 : BitVec 32 := Scalar.muli v26 c3072_i32_61
  let c1536_i32_62 : BitVec 32 := 1536#32
  let v67 : BitVec 32 := Scalar.addi v66 c1536_i32_62
  let c0_i32_65 : BitVec 32 := 0#32
  ![v67.toNat, 0]
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v27 : BitVec 32 := Scalar.subi v2 c6_i32
  let c8_i32_28 : BitVec 32 := 8#32
  let v28 : BitVec 32 := Scalar.addi v27 c8_i32_28
  let c8_i32_29 : BitVec 32 := 8#32
  let v29 : BitVec 32 := Scalar.remsi v28 c8_i32_29
  let c3072_i32_68 : BitVec 32 := 3072#32
  let v72 : BitVec 32 := Scalar.muli v29 c3072_i32_68
  let c1536_i32_71 : BitVec 32 := 1536#32
  ![v72.toNat, 1536]
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_23 : BitVec 32 := 1#32
  let v22 : BitVec 32 := Scalar.addi v2 c1_i32_23
  let c8_i32_24 : BitVec 32 := 8#32
  let v23 : BitVec 32 := Scalar.remsi v22 c8_i32_24
  let c3072_i32_82 : BitVec 32 := 3072#32
  let v86 : BitVec 32 := Scalar.muli v23 c3072_i32_82
  let c1536_i32_85 : BitVec 32 := 1536#32
  ![v86.toNat, 1536]
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_30 : BitVec 32 := 6#32
  let v30 : BitVec 32 := Scalar.addi v2 c6_i32_30
  let c8_i32_31 : BitVec 32 := 8#32
  let v31 : BitVec 32 := Scalar.remsi v30 c8_i32_31
  let c3072_i32_88 : BitVec 32 := 3072#32
  let v91 : BitVec 32 := Scalar.muli v31 c3072_i32_88
  let c1536_i32_89 : BitVec 32 := 1536#32
  let v92 : BitVec 32 := Scalar.addi v91 c1536_i32_89
  let c1536_i32_92 : BitVec 32 := 1536#32
  ![v92.toNat, 1536]
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_25 : BitVec 32 := 8#32
  let v24 : BitVec 32 := Scalar.addi v2 c8_i32_25
  let c1_i32_26 : BitVec 32 := 1#32
  let v25 : BitVec 32 := Scalar.subi v24 c1_i32_26
  let c8_i32_27 : BitVec 32 := 8#32
  let v26 : BitVec 32 := Scalar.remsi v25 c8_i32_27
  let c3072_i32_103 : BitVec 32 := 3072#32
  let v106 : BitVec 32 := Scalar.muli v26 c3072_i32_103
  let c1536_i32_104 : BitVec 32 := 1536#32
  let v107 : BitVec 32 := Scalar.addi v106 c1536_i32_104
  let c1536_i32_107 : BitVec 32 := 1536#32
  ![v107.toNat, 1536]
abbrev stage0_0 : Fin 1 → Memref sig .tc .vmem S1536x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S24576x1536 : Shape := ⟨2, ![24576, 1536]⟩
abbrev S1536x3072 : Shape := ⟨2, ![1536, 3072]⟩
abbrev S24576x3072 : Shape := ⟨2, ![24576, 3072]⟩

abbrev nBuf : Space → Nat
  | .hbm => 4
  | .vmem => 0
  | .smem => 0
  | _ => 0

abbrev bufTy : (tb : Table) → Fin (tcTables nBuf tb) → BufTy
  | .hbm, ⟨0, _⟩ => ⟨S24576x1536, .bf16⟩
  | .hbm, ⟨1, _⟩ => ⟨S1536x3072, .bf16⟩
  | .hbm, ⟨2, _⟩ => ⟨S24576x3072, .f32⟩
  | .hbm, ⟨3, _⟩ => ⟨S24576x3072, .bf16⟩
  | _, _ => ⟨S24576x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Protocol.lean ====
/-
The protocol of the two rings, as a schedule of rounds.

Eight devices stand on a ring. Each cuts its block of `A` in two halves. The top halves (direction 0) travel to the
right, the bottom halves (direction 1) to the left, seven hops each, through two slots of a scratch buffer per
direction. Hop `h` of a direction sends the slot `h % 2` of the sender into the slot `(h + 1) % 2` of the receiver.

The semaphores of a device, in one direction:
* two send semaphores (one per slot): paid by the device's own transfers, and giving back the share of the source
  lent to the transfer;
* two receive semaphores (one per slot): paid by the neighbour's transfers, and giving the slot with what was sent;
* one capacity semaphore: paid by the receiving neighbour once it has freed a slot, hop after hop, in one round of six
  units, the unit of hop `i` saying which of its slots are free up to that hop;
and one barrier semaphore for the whole device, paid by both neighbours at the start with their first free slot.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Release
public import Idealize.ShloMosaic.Lib.Transfers
public import Idealize.ShloMosaic.Lib.MemrefSat
public import Idealize.ShloMosaic.Lib.Tactic

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

/-! ## The ring -/

set_option backward.proofsInPublic true in
/-- The device a direction sends to: the right neighbour for direction 0, the left one for direction 1. -/
def dst (d : Fin 2) (c : Dev nD) : Dev nD := ⟨(c.val + (if d = 0 then 1 else 7)) % 8, Nat.mod_lt _ (by decide)⟩
set_option backward.proofsInPublic true in
/-- The device a direction receives from. -/
def src (d : Fin 2) (c : Dev nD) : Dev nD := ⟨(c.val + (if d = 0 then 7 else 1)) % 8, Nat.mod_lt _ (by decide)⟩
set_option backward.proofsInPublic true in
/-- The device whose half is at `c` at hop `h`. -/
def orig (d : Fin 2) (c : Dev nD) (h : ℕ) : Dev nD :=
  ⟨(if d = 0 then c.val + 8 - h else c.val + h) % 8, Nat.mod_lt _ (by decide)⟩
set_option backward.proofsInPublic true in
/-- The slot of a parity. -/
def par (k : ℕ) : Fin 2 := ⟨k % 2, Nat.mod_lt _ (by decide)⟩

theorem src_dst (d : Fin 2) (c : Dev nD) : src d (dst d c) = c := by revert d c; decide
theorem dst_src (d : Fin 2) (c : Dev nD) : dst d (src d c) = c := by revert d c; decide
theorem orig_zero (d : Fin 2) (c : Dev nD) : orig d c 0 = c := by revert d c; decide
/-- What the sender holds at a hop is what the receiver holds at the next. -/
theorem orig_dst (d : Fin 2) (c : Dev nD) (h : Fin 7) : orig d (dst d c) (h.val + 1) = orig d c h.val := by
  revert d c h; decide
theorem dst_zero_src_one (c : Dev nD) : src 1 c = dst 0 c := by revert c; decide
theorem dst_one_src_zero (c : Dev nD) : src 0 c = dst 1 c := by revert c; decide
theorem par_add_two (k : ℕ) : par (k + 2) = par k := Fin.ext (by simp [par])

/-! ## The semaphores -/

set_option backward.proofsInPublic true in
/-- The send semaphore of a direction and a slot. -/
def sendS (d s : Fin 2) : DmaSem sig := ⟨1 + 4 * d.val + s.val, by have := d.isLt; have := s.isLt; show _ < 13; omega⟩
set_option backward.proofsInPublic true in
/-- The receive semaphore of a direction and a slot. -/
def recvS (d s : Fin 2) : DmaSem sig := ⟨3 + 4 * d.val + s.val, by have := d.isLt; have := s.isLt; show _ < 13; omega⟩
set_option backward.proofsInPublic true in
/-- The semaphore of the copies out of a staging tile: row half `d`, column tile `j`. -/
def cpS (d j : Fin 2) : DmaSem sig := ⟨9 + 2 * d.val + j.val, by have := d.isLt; have := j.isLt; show _ < 13; omega⟩
set_option backward.proofsInPublic true in
/-- The capacity semaphore of a direction. -/
def capS (d : Fin 2) : Sem sig := ⟨d.val, by have := d.isLt; show _ < 3; omega⟩
/-- The barrier semaphore. -/
abbrev barS : Sem sig := (SemArray.scalar (sig.barrier 0 rfl) : Sems sig S_).sem

/-- The kinds of semaphores the two rings use. -/
inductive Kd | bar | send (d s : Fin 2) | recv (d s : Fin 2) | cap (d : Fin 2)
deriving DecidableEq

set_option backward.proofsInPublic true in
/-- The kinds, listed. -/
def kds : List Kd := [.bar, .send 0 0, .send 0 1, .send 1 0, .send 1 1, .recv 0 0, .recv 0 1, .recv 1 0, .recv 1 1, .cap 0, .cap 1]

instance : Fintype Kd := ⟨⟨kds, by decide⟩, fun k => by
  cases k with
  | bar => decide
  | send d s => revert d s; decide
  | recv d s => revert d s; decide
  | cap d => revert d; decide⟩

set_option backward.proofsInPublic true in
/-- The semaphore of a kind. -/
@[reducible] def semOf : Kd → SemLoc sig
  | .bar => .reg barS
  | .send d s => .dma (sendS d s)
  | .recv d s => .dma (recvS d s)
  | .cap d => .reg (capS d)

set_option backward.proofsInPublic true in
/-- The kind of a semaphore. -/
def dec (s : SemLoc sig) : Option Kd := kds.find? fun k => semOf k = s

theorem dec_semOf (k : Kd) : dec (semOf k) = some k := by
  cases k with
  | bar => decide
  | send d s => revert d s; decide
  | recv d s => revert d s; decide
  | cap d => revert d; decide

theorem dec_cpS (d j : Fin 2) : dec (.dma (cpS d j)) = none := by revert d j; decide
theorem dec_stage : dec (.dma (⟨0, by decide⟩ : DmaSem sig)) = none := by decide

theorem semOf_inj : Function.Injective semOf := fun a b h => by
  have := congrArg dec h; rw [dec_semOf, dec_semOf] at this; exact Option.some.inj this

/-- The cell of a kind on a device. -/
abbrev cell (c : Dev nD) (k : Kd) : GSem nD τ sig := ((c : Thread nD τ), semOf k)

theorem cell_inj {c c' : Dev nD} {k k' : Kd} (h : cell c k = cell c' k') : c = c' ∧ k = k' := by
  have h1 := congrArg Prod.fst h
  have h2 := congrArg Prod.snd h
  exact ⟨by have := congrArg Prod.fst h1; exact this, semOf_inj h2⟩

/-! ## The memrefs -/

abbrev aM : Memref sig .tc .hbm S3072x1536 .bf16 := Memref.whole main_arg0
abbrev bM : Memref sig .tc .vmem S1536x3072 .bf16 := Memref.whole cc0_stg0_0
abbrev oM : Memref sig .tc .hbm S24576x3072 .bf16 := Memref.whole main_v1
abbrev cM : Memref sig .tc .vmem S2x3072x1536 .bf16 := Memref.whole cc0_scratch0
abbrev tM : Memref sig .tc .vmem S3072x3072 .bf16 := Memref.whole cc0_scratch1

theorem aOff_inb (d : Fin 2) : ∀ a, (![1536 * d.val, 0] : Fin 2 → ℕ) a + S1536x1536.size a ≤ S3072x1536.size a := by
  revert d; decide
theorem bOff_inb (j : Fin 2) : ∀ a, (![0, 1536 * j.val] : Fin 2 → ℕ) a + S1536x1536.size a ≤ S1536x3072.size a := by
  revert j; decide
theorem cOff_inb (d s : Fin 2) : ∀ a, (![s.val, 1536 * d.val, 0] : Fin 3 → ℕ) a + S1x1536x1536.size a ≤ S2x3072x1536.size a := by
  revert d s; decide
theorem tOff_inb (d j : Fin 2) : ∀ a, (![1536 * d.val, 1536 * j.val] : Fin 2 → ℕ) a + S1536x1536.size a ≤ S3072x3072.size a := by
  revert d j; decide
theorem oOff_inb (d j : Fin 2) (e : Dev nD) :
    ∀ a, (![3072 * e.val + 1536 * d.val, 1536 * j.val] : Fin 2 → ℕ) a + S1536x1536.size a ≤ S24576x3072.size a := by
  revert d j e; decide

/-- Half `d` of the device's block of `A`. -/
abbrev aV (d : Fin 2) : Memref sig .tc .hbm S1536x1536 .bf16 :=
  aM.slice (Rect.unit (s := S3072x1536) ![1536 * d.val, 0] S1536x1536.size (aOff_inb d)) (fun _ => rfl)
/-- Column tile `j` of `B`, in its staging buffer. -/
abbrev bV (j : Fin 2) : Memref sig .tc .vmem S1536x1536 .bf16 :=
  bM.slice (Rect.unit (s := S1536x3072) ![0, 1536 * j.val] S1536x1536.size (bOff_inb j)) (fun _ => rfl)
/-- Slot `s` of direction `d` in the scratch buffer. -/
abbrev cV (d s : Fin 2) : Memref sig .tc .vmem S1536x1536 .bf16 :=
  (cM.slice (Rect.unit (s := S2x3072x1536) ![s.val, 1536 * d.val, 0] S1x1536x1536.size (cOff_inb d s)) (fun _ => rfl)).squeeze
    S1536x1536 squeezes_S1x1536x1536_S1536x1536
/-- The staging tile of row half `d` and column tile `j`. -/
abbrev tV (d j : Fin 2) : Memref sig .tc .vmem S1536x1536 .bf16 :=
  tM.slice (Rect.unit (s := S3072x3072) ![1536 * d.val, 1536 * j.val] S1536x1536.size (tOff_inb d j)) (fun _ => rfl)
/-- The tile of the result: device `e`'s rows, row half `d`, column tile `j`. -/
abbrev oV (d j : Fin 2) (e : Dev nD) : Memref sig .tc .hbm S1536x1536 .bf16 :=
  oM.slice (Rect.unit (s := S24576x3072) ![3072 * e.val + 1536 * d.val, 1536 * j.val] S1536x1536.size (oOff_inb d j e)) (fun _ => rfl)

/-- The credit of one transfer of a half. -/
@[irreducible] def N : ℕ := (cV 0 0).view.dmaCredit
theorem N_eq : (cV 0 0).view.dmaCredit = N := by unfold N; rfl
theorem N_pos : 0 < N := by unfold N; exact View.dmaCredit_pos _ (by decide)

/-! ## The logic -/

/-- A slot's key: device, direction, slot. -/
abbrev Key : Type := Dev nD × Fin 2 × Fin 2
abbrev UB : Type := URounds (GSem nD τ sig) ℕ
abbrev US : Type := USlots Key
abbrev UU : Type := UR sig nD τ × (UB × (US × Counters))

/-- The assertions' algebra. -/
abbrev MM (F : FTy → Type) : Type := MT nD τ sig ℕ (Elt F) ℕ UU ℕ
local notation "𝕄" => MM F

abbrev EP : Emb (UR sig nD τ) 𝕄 := embL
abbrev ER : Emb UB 𝕄 := (Emb.inl : Emb UB (UB × (US × Counters))).trans embR
abbrev ES : Emb US 𝕄 := ((Emb.inl : Emb US (US × Counters)).trans (Emb.inr : Emb (US × Counters) (UB × (US × Counters)))).trans embR
abbrev EC : UEmb Counters 𝕄 := countersEmb

instance ER_lands : (ER (F := F)).LandsIn (upEmb : UEmb _ 𝕄) := by unfold ER; infer_instance
instance ES_lands : (ES (F := F)).LandsIn (upEmb : UEmb _ 𝕄) := by unfold ES; infer_instance
instance EC_lands : (EC (F := F)).LandsIn (upEmb : UEmb _ 𝕄) := by unfold EC countersEmb; infer_instance

variable (m : (ℓ : Loc nD τ sig) → Buf (Elt F) ℓ) (ρ : Dev nD → PrngReg)

/-- The state at launch. -/
def s₀ : MemSt nD τ sig (Elt F) := ⟨m, fun _ => 0, ρ⟩

/-- A tile of bf16 values. -/
abbrev Tile (F : FTy → Type) : Type := S1536x1536.Idx → Elt F .bf16

/-- Half `d` of device `e`'s block of `A`. -/
def half (d : Fin 2) (e : Dev nD) : Tile F := (aV d).view.read (Elt F) (m ((e : Thread nD τ).loc main_arg0))

/-! ## The schedule -/

/-- What allows hop `h` of direction `d` into device `e`: its slot is free for that hop, and its receive cell has come
    to that hop's round. -/
def Rel (d : Fin 2) (e : Dev nD) (h : ℕ) : sProp 𝕄 :=
  iprop(released ES (e, d, par (h + 1)) (h / 2 + 1) ∗ reached ER (cell e (.recv d (par (h + 1)))) (h / 2))

instance Rel_persistent (d : Fin 2) (e : Dev nD) (h : ℕ) : BI.Persistent (Rel (F := F) d e h) := by unfold Rel; infer_instance
instance Rel_storable (d : Fin 2) (e : Dev nD) (h : ℕ) : BI.Storable (upEmb : UEmb _ 𝕄) (Rel (F := F) d e h) := by
  unfold Rel; infer_instance

/-- The first `n` hops allowed. -/
def Rels (d : Fin 2) (e : Dev nD) (n : ℕ) : sProp 𝕄 := bigSep (Finset.range n) (Rel d e)
instance Rels_persistent (d : Fin 2) (e : Dev nD) (n : ℕ) : BI.Persistent (Rels (F := F) d e n) := by unfold Rels; infer_instance
instance Rels_storable (d : Fin 2) (e : Dev nD) (n : ℕ) : BI.Storable (upEmb : UEmb _ 𝕄) (Rels (F := F) d e n) := by
  unfold Rels; infer_instance

set_option backward.proofsInPublic true in
/-- The number of rounds of a cell. -/
def rounds : Kd → ℕ
  | .bar => 1
  | .send _ s => if s = 0 then 4 else 3
  | .recv _ s => if s = 0 then 3 else 4
  | .cap _ => 1
set_option backward.proofsInPublic true in
/-- The duties of a cell's round. -/
def duts : Kd → Finset ℕ
  | .bar => Finset.range 2
  | .send _ _ => {0}
  | .recv _ _ => {0}
  | .cap _ => Finset.range 6
/-- The amount of a duty. -/
def amt : Kd → ℕ
  | .bar => 1
  | .send _ _ => N
  | .recv _ _ => N
  | .cap _ => 1

/-- The direction a barrier duty stands for. -/
def dirOf (i : ℕ) : Fin 2 := if i = 0 then 0 else 1

/-- What a duty hands over, on device `c`. -/
def pay (c : Dev nD) : Kd → ℕ → ℕ → sProp 𝕄
  | .bar, _, i => Rel (dirOf i) (dst (dirOf i) c) 0
  | .send d s, r, _ => owns (c : Thread nD τ) (cV d s) fullShare.left (half m d (orig d c (2 * r + s.val)))
  | .recv d s, r, _ => owns (c : Thread nD τ) (cV d s) fullShare (half m d (orig d c (2 * r + 2 - s.val)))
  | .cap d, _, i => Rels d (dst d c) (i + 2)

instance pay_storable (c : Dev nD) (k : Kd) (r i : ℕ) : BI.Storable (upEmb : UEmb _ 𝕄) (pay m c k r i) := by
  cases k <;> (simp only [pay]; infer_instance)

/-- The schedule of both rings. -/
def Rd : Rounds.Schedule (GSem nD τ sig) ℕ 𝕄 where
  duties g r := match dec g.2 with
    | some k => if g.1.2 = .tc ∧ r < rounds k then duts k else ∅
    | none => ∅
  unitless _ := False
  amount g _ _ := match dec g.2 with
    | some k => amt k
    | none => 1
  payload g r i := match dec g.2 with
    | some k => pay m g.1.1 k r i
    | none => iprop(emp)
  amount_pos g r d _ := by
    split
    · rename_i k _; cases k <;> first | exact Nat.one_pos | exact N_pos
    · exact Nat.one_pos

instance Rd_storable (g : GSem nD τ sig) (r i : ℕ) : BI.Storable (upEmb : UEmb _ 𝕄) ((Rd (F := F) m).payload g r i) := by
  dsimp only [Rd]; split <;> infer_instance

theorem Rd_duties (c : Dev nD) (k : Kd) {r : ℕ} (h : r < rounds k) : (Rd (F := F) m).duties (cell c k) r = duts k := by
  dsimp only [Rd, cell]; rw [dec_semOf]; exact if_pos ⟨rfl, h⟩
theorem Rd_later (c : Dev nD) (k : Kd) {R : ℕ} (hR : R = rounds k) : ∀ r, R ≤ r → (Rd (F := F) m).duties (cell c k) r = ∅ := fun r h => by
  subst hR
  dsimp only [Rd, cell]; rw [dec_semOf]; exact if_neg fun h' => by omega
theorem Rd_amount (c : Dev nD) (k : Kd) (r i : ℕ) : (Rd (F := F) m).amount (cell c k) r i = amt k := by
  dsimp only [Rd, cell]; rw [dec_semOf]
theorem Rd_payload (c : Dev nD) (k : Kd) (r i : ℕ) : (Rd (F := F) m).payload (cell c k) r i = pay m c k r i := by
  dsimp only [Rd, cell]; rw [dec_semOf]
theorem Rd_expect (c : Dev nD) (k : Kd) {r : ℕ} (h : r < rounds k) : (Rd (F := F) m).expect (cell c k) r = (duts k).card * amt k := by
  unfold Schedule.expect Schedule.amountOf
  rw [Rd_duties m c k h, Finset.sum_congr rfl fun d _ => Rd_amount m c k r d, Finset.sum_const, smul_eq_mul]

/-! ## What is owed, and the levels -/

/-- The receive credit device `c` owes for its hop `h`. -/
def oSend (d : Fin 2) (c : Dev nD) (h : ℕ) : CellTallies nD τ sig ℕ := tallyAt (cell (dst d c) (.recv d (par (h + 1)))) h N
/-- The capacity unit device `c` owes at its hop `i`. -/
def oCap (d : Fin 2) (c : Dev nD) (i : ℕ) : CellTallies nD τ sig ℕ := tallyAt (cell (src d c) (.cap d)) i 1
/-- What is owed in one direction from hop `a` on in transfers and from hop `b` on in capacity units. -/
def Ow (d : Fin 2) (c : Dev nD) (a b : ℕ) : CellTallies nD τ sig ℕ :=
  (∑ h ∈ Finset.Ico a 7, oSend d c h) + ∑ i ∈ Finset.Ico b 6, oCap d c i

/-- A range of hops without its first. -/
theorem Ico_first {a b : ℕ} (h : a < b) : Finset.Ico a b = insert a (Finset.Ico (a + 1) b) := by
  ext x; simp only [Finset.mem_Ico, Finset.mem_insert]; omega
theorem Ico_first_not {a b : ℕ} : a ∉ Finset.Ico (a + 1) b := by simp

theorem Ow_send (d : Fin 2) (c : Dev nD) {a : ℕ} (b : ℕ) (h : a < 7) : Ow d c a b = Ow d c (a + 1) b + oSend d c a := by
  unfold Ow; rw [Ico_first h, Finset.sum_insert Ico_first_not, add_comm (oSend d c a), add_right_comm]
theorem Ow_cap (d : Fin 2) (c : Dev nD) (a : ℕ) {b : ℕ} (h : b < 6) : Ow d c a b = Ow d c a (b + 1) + oCap d c b := by
  unfold Ow; rw [Ico_first h, Finset.sum_insert Ico_first_not, add_comm (oCap d c b), add_assoc]
theorem Ow_end (d : Fin 2) (c : Dev nD) {a b : ℕ} (ha : 7 ≤ a) (hb : 6 ≤ b) : Ow d c a b = 0 := by
  unfold Ow; rw [Finset.Ico_eq_empty_of_le ha, Finset.Ico_eq_empty_of_le hb]; simp

/-- What is owed in both directions. -/
def Ob (c : Dev nD) (a0 b0 a1 b1 : ℕ) : CellTallies nD τ sig ℕ := Ow 0 c a0 b0 + Ow 1 c a1 b1

/-- The unit owed to a neighbour's barrier. -/
def oBar (d : Fin 2) (c : Dev nD) : CellTallies nD τ sig ℕ := tallyAt (cell (src d c) .bar) 0 1
/-- What a device owes at launch. -/
def O₀ (c : Dev nD) : CellTallies nD τ sig ℕ := Ob c 0 0 0 0 + oBar 1 c + oBar 0 c

/-- The indices of every cell of a TensorCore. -/
def L (g : GSem nD τ sig) : Finset ℕ := if g.1.2 = .tc then Finset.range 8 else ∅
/-- The level of a cell at an index: the barrier below everything owed after it, then hop by hop. -/
def lv (g : GSem nD τ sig) (i : ℕ) : ℕ := match dec g.2 with
  | some .bar => 1
  | some (.recv _ _) => i + 2
  | some (.cap _) => i + 2
  | _ => 0

theorem L_of_ne (g : GSem nD τ sig) (h : g.1.2 ≠ .tc) : L g = ∅ := if_neg h
theorem L_tc (c : Dev nD) (sm : SemLoc sig) : L ((c : Thread nD τ), sm) = Finset.range 8 := if_pos rfl
theorem lv_cell (c : Dev nD) (k : Kd) (i : ℕ) : lv (cell c k) i = match k with | .bar => 1 | .recv _ _ => i + 2 | .cap _ => i + 2 | _ => 0 := by
  dsimp only [lv, cell]; rw [dec_semOf]; cases k <;> rfl

end Cert.Ring
-- ==== Proof.Base.lean ====
/-
What the steps of the two rings stand on: the levels of the waits, the persistent facts every device holds throughout,
and the payloads of a hop.
-/
module

public import proofs.«01_k».proof.Proof.Protocol

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]
local notation "𝕄" => MM F

variable (m : (ℓ : Loc nD τ sig) → Buf (Elt F) ℓ) (ρ : Dev nD → PrngReg)
variable (K : Dev nD × Kd → ℕ) (KS : Key → ℕ)

abbrev 𝒱₀ : Variants := Variants.none

/-- The weakest precondition of a program on device `c`'s TensorCore. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Levels -/

/-- Everything owed sits above level `n`. -/
def Low (O : CellTallies nD τ sig ℕ) (n : ℕ) : Prop := ∀ g u, 0 < O g u → u ∈ L g ∧ n < lv g u

theorem Low_zero (n : ℕ) : Low 0 n := fun g u h => absurd h (Nat.lt_irrefl 0)
theorem Low_add {O O' : CellTallies nD τ sig ℕ} {n : ℕ} (h : Low O n) (h' : Low O' n) : Low (O + O') n := fun g u hg => by
  rw [Pi.add_apply, Finsupp.add_apply] at hg
  by_cases h0 : 0 < O g u
  · exact h g u h0
  · exact h' g u (by omega)
theorem Low_sum {s : Finset ℕ} {f : ℕ → CellTallies nD τ sig ℕ} {n : ℕ} (h : ∀ i ∈ s, Low (f i) n) : Low (∑ i ∈ s, f i) n := by
  induction s using Finset.induction_on with
  | empty => rw [Finset.sum_empty]; exact Low_zero n
  | insert a s ha ih =>
    rw [Finset.sum_insert ha]
    exact Low_add (h a (Finset.mem_insert_self a s)) (ih fun i hi => h i (Finset.mem_insert_of_mem hi))
theorem Low_tally (c : Dev nD) (k : Kd) (i x n : ℕ) (hi : i < 8) (h : n < lv (cell c k) i) : Low (tallyAt (cell c k) i x) n := fun g u hg => by
  rw [tallyAt_apply] at hg
  by_cases hh : g = cell c k ∧ u = i
  · obtain ⟨rfl, rfl⟩ := hh
    exact ⟨by rw [L_tc]; exact Finset.mem_range.mpr hi, h⟩
  · rw [if_neg hh] at hg; exact absurd hg (Nat.lt_irrefl 0)
theorem Low_Ow (d : Fin 2) (c : Dev nD) {a b n : ℕ} (ha : n ≤ a) (hb : n ≤ b) : Low (Ow d c a b) (n + 1) := by
  unfold Ow
  refine Low_add (Low_sum fun i hi => ?_) (Low_sum fun i hi => ?_)
  · have := Finset.mem_Ico.mp hi
    exact Low_tally _ _ _ _ _ (by omega) (by rw [lv_cell]; show _ < i + 2; omega)
  · have := Finset.mem_Ico.mp hi
    exact Low_tally _ _ _ _ _ (by omega) (by rw [lv_cell]; show _ < i + 2; omega)
theorem Low_Ob (c : Dev nD) {a0 b0 a1 b1 n : ℕ} (h0 : n ≤ a0) (h1 : n ≤ b0) (h2 : n ≤ a1) (h3 : n ≤ b1) : Low (Ob c a0 b0 a1 b1) (n + 1) :=
  Low_add (Low_Ow 0 c h0 h1) (Low_Ow 1 c h2 h3)
theorem Low_mono {O : CellTallies nD τ sig ℕ} {n n' : ℕ} (h : Low O n) (hn : n' ≤ n) : Low O n' := fun g u hg =>
  ⟨(h g u hg).1, lt_of_le_of_lt hn (h g u hg).2⟩

/-- A wait on a semaphore below everything owed is allowed. -/
theorem mayWait {O : CellTallies nD τ sig ℕ} {n : ℕ} (hO : Low O n) (c : Dev nD) (sm : SemLoc sig) (i : ℕ) (hi : i < 8)
    (hl : lv ((c : Thread nD τ), sm) i ≤ n) : (levAts L lv : sProp 𝕄) ⊢ MayWait (c : Thread nD τ) sm i O :=
  MayOwe.of_cut (L := L) (lev := lv) n
    (fun p hp => by rw [Finset.mem_singleton.mp hp, L_tc]; exact Finset.mem_range.mpr hi)
    (fun g u hg => (hO g u hg).1)
    (fun p hp => by rw [Finset.mem_singleton.mp hp]; exact hl)
    (fun g u hg => (hO g u hg).2)

/-! ## What every device holds throughout -/

/-- A free slot: a slot held outright, at any contents. -/
def SL (x : Key) : sProp 𝕄 := iprop(∃ X, owns (x.1 : Thread nD τ) (cV x.2.1 x.2.2) fullShare X)

instance SL_storable (x : Key) : BI.Storable (upEmb : UEmb _ 𝕄) (SL (F := F) x) := by unfold SL; infer_instance

/-- A cell's invariant, and that its first round is reached. -/
def CI (x : Dev nD × Kd) : sProp 𝕄 := iprop(cellInv ER (Rd m) (K x) (cell x.1 x.2) ∗ reached ER (cell x.1 x.2) 0)
instance CI_persistent (x : Dev nD × Kd) : BI.Persistent (CI m K x) := by unfold CI; infer_instance

/-- Every cell's invariant with its first round reached, every slot's invariant, and the level facts. -/
def Bun : sProp 𝕄 :=
  iprop(bigSep Finset.univ (CI m K) ∗ bigSep Finset.univ (fun x : Key => slotInv ES (KS x) x (SL x)) ∗ levAts L lv)
instance Bun_persistent : BI.Persistent (Bun m K KS) := by unfold Bun; infer_instance

theorem Bun_cell (c : Dev nD) (k : Kd) : Bun m K KS ⊢ iprop(cellInv ER (Rd m) (K (c, k)) (cell c k) ∗ reached ER (cell c k) 0) := by
  have h : bigSep Finset.univ (CI m K) ⊢ CI m K (c, k) := bigSep_elim (Finset.mem_univ _)
  unfold Bun
  iintro ⟨H, -, -⟩
  ihave H := h $$ H
  unfold CI
  iexact H
theorem Bun_slot (x : Key) : Bun m K KS ⊢ slotInv ES (KS x) x (SL x) := by
  have h : bigSep Finset.univ (fun x : Key => slotInv (ES (F := F)) (KS x) x (SL x)) ⊢ slotInv ES (KS x) x (SL x) :=
    bigSep_elim (Φ := fun x : Key => slotInv (ES (F := F)) (KS x) x (SL x)) (Finset.mem_univ _)
  unfold Bun
  iintro ⟨-, H, -⟩
  iapply h $$ H
theorem Bun_lev : Bun m K KS ⊢ levAts L lv := by
  unfold Bun; iintro ⟨-, -, H⟩; iexact H

theorem SL_excl (x : Key) : iprop(SL x ∗ SL x) ⊢ (False : sProp 𝕄) := by
  unfold SL owns
  iintro ⟨⟨%X, %f, -, Hf⟩, ⟨%Y, %g, -, Hg⟩⟩
  have hne : (cV x.2.1 x.2.2).view.emb (fun _ => ⟨0, by rename_i a; fin_cases a <;> decide⟩) ∈ (cV x.2.1 x.2.2).view.set :=
    Finset.mem_map_of_mem _ (Finset.mem_univ _)
  iapply (slot_slot_false (ℓ := (cV x.2.1 x.2.2).view.loc (x.1 : Thread nD τ)) (I := (cV x.2.1 x.2.2).view.set) ⟨_, hne⟩)
  unfold slot
  isplitl [Hf]
  · iexists f; iexact Hf
  · iexists g; iexact Hg

/-- What the device owes, whatever it has waited for. -/
def OW (c : Dev nD) (O : CellTallies nD τ sig ℕ) : sProp 𝕄 := iprop(∃ W, owes (c : Thread nD τ) O W)

/-! ## The hops -/

theorem two_par (h : ℕ) : 2 * (h / 2) + (par h).val = h := by show 2 * (h / 2) + h % 2 = h; omega
theorem two_par' (h : ℕ) : 2 * (h / 2) + 2 - (par (h + 1)).val = h + 1 := by show 2 * (h / 2) + 2 - (h + 1) % 2 = h + 1; omega
theorem send_round {d : Fin 2} {h : ℕ} (h7 : h < 7) : h / 2 < rounds (.send d (par h)) := by
  have h' : ∀ h : Fin 7, h.val / 2 < if par h.val = 0 then 4 else 3 := by decide
  exact h' ⟨h, h7⟩
theorem recv_round {d : Fin 2} {h : ℕ} (h7 : h < 7) : h / 2 < rounds (.recv d (par (h + 1))) := by
  have h' : ∀ h : Fin 7, h.val / 2 < if par (h.val + 1) = 0 then 3 else 4 := by decide
  exact h' ⟨h, h7⟩

/-- The tokens hop `h` of direction `d` is sent with. -/
def Tok (d : Fin 2) (c : Dev nD) (h : ℕ) : sProp 𝕄 :=
  iprop(dutyTok ER (cell c (.send d (par h))) (h / 2) 0 ∗ dutyTok ER (cell (dst d c) (.recv d (par (h + 1)))) (h / 2) 0
    ∗ writeTok ES (dst d c, d, par (h + 1)) (h / 2 + 1))

theorem amount_eq (d s : Fin 2) (q : DmaSem sig) : (cV d s).view.amount (SemLoc.dma q) = N := by unfold N; rfl

/-- The lent half of the source is the send cell's payload. -/
theorem sendPay_intro (d : Fin 2) (c : Dev nD) (h : ℕ) {fs : (cV d (par h)).view.ty.Contents (Elt F)}
    (hfs : (cV d (par h)).view.read (Elt F) fs = half m d (orig d c h)) :
    ((cV d (par h)).view.loc (c : Thread nD τ) ↦[(cV d (par h)).view.set]{fullShare.left} fs : sProp 𝕄)
      ⊢ (Rd m).payload (cell c (.send d (par h))) (h / 2) 0 := by
  rw [Rd_payload]
  dsimp only [pay]
  rw [two_par, ← hfs]
  exact owns_intro (c : Thread nD τ) (cV d (par h)) fullShare.left fs

/-- The slot rewritten with what was sent is the receive cell's payload. -/
theorem recvPay_intro (d : Fin 2) (c : Dev nD) (h : ℕ) (h7 : h < 7) {fs : (cV d (par h)).view.ty.Contents (Elt F)}
    (hfs : (cV d (par h)).view.read (Elt F) fs = half m d (orig d c h)) (fd : (cV d (par (h + 1))).view.ty.Contents (Elt F)) :
    ((cV d (par (h + 1))).view.loc ((dst d c : Dev nD) : Thread nD τ) ↦[(cV d (par (h + 1))).view.set]{fullShare}
        ((cV d (par (h + 1))).view.write (Elt F) fd ((cV d (par h)).view.read (Elt F) fs) Finset.univ) : sProp 𝕄)
      ⊢ (Rd m).payload (cell (dst d c) (.recv d (par (h + 1)))) (h / 2) 0 := by
  rw [Rd_payload]
  dsimp only [pay]
  rw [two_par', orig_dst d c ⟨h, h7⟩]
  refine (owns_intro ((dst d c : Dev nD) : Thread nD τ) (cV d (par (h + 1))) fullShare _).trans ?_
  rw [View.read_write_univ, hfs]

end Cert.Ring
-- ==== Proof.Tiles.lean ====
/-
The tiles of the result: what each holds, and the steps that compute one and copy it out.
-/
module

public import proofs.«01_k».proof.Proof.Base

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]
local notation "𝕄" => MM F

variable (m : (ℓ : Loc nD τ sig) → Buf (Elt F) ℓ) (ρ : Dev nD → PrngReg)
variable (K : Dev nD × Kd → ℕ) (KS : Key → ℕ)

/-! ## The values -/

/-- The kernel's product of a half of a block of `A` with a column tile of `B`: multiplied at f32, rounded to bf16. -/
def mm (X Y : Tile F) : Tile F :=
  shapeCast S1536x1536 (truncf .bf16 (matmul dot_S1536x1536_S1536x1536_S1536x1536_1_0_0_1_n_n none (X : FVec F S1536x1536 .bf16)
    (shapeCast S1536x1536 Y shapeCasts_S1536x1536_S1536x1536) (constant S1536x1536 .f32 0x00000000#32)) bitsLt_bf16_f32 : FVec F S1536x1536 .bf16)
    shapeCasts_S1536x1536_S1536x1536

/-- `B` as it is staged on device `c`. -/
def bstg (c : Dev nD) : (cc0_stg0_0 : Ref sig .tc).ty.Contents (Elt F) :=
  (win0_0.blk (0 : Fin 1)).view.read (Elt F) (m ((c : Thread nD τ).loc main_arg1))

/-- Column tile `j` of `B` on device `c`. -/
def bcol (j : Fin 2) (c : Dev nD) : Tile F := (bV j).view.read (Elt F) (bstg m c)

/-- The tile of the result that device `c` computes at step `h`: row half `d` of its block `orig d c h`, column tile `j`. -/
def val (d j : Fin 2) (c : Dev nD) (h : ℕ) : Tile F := mm (half m d (orig d c h)) (bcol m j c)

/-! ## The tiles -/

/-- A tile of the result not yet written. -/
def OA (d j : Fin 2) (c : Dev nD) (h : ℕ) : sProp 𝕄 := iprop(∃ Z, owns (c : Thread nD τ) (oV d j (orig d c h)) fullShare Z)
/-- A tile of the result, written. -/
def OD (d j : Fin 2) (c : Dev nD) (h : ℕ) : sProp 𝕄 := owns (c : Thread nD τ) (oV d j (orig d c h)) fullShare (val m d j c h)
/-- A staging tile, free. -/
def TF (d j : Fin 2) (c : Dev nD) : sProp 𝕄 := iprop(∃ Z, owns (c : Thread nD τ) (tV d j) fullShare Z)
/-- `B` in its staging buffer. -/
def BO (c : Dev nD) : sProp 𝕄 := ((c : Thread nD τ).loc cc0_stg0_0 ↦{fullShare} bstg m c)

/-- Between steps, nothing in flight: the first `k` tiles are written, the others are not; the staging tile is free and
    its copy semaphore at zero. -/
def TW (d j : Fin 2) (c : Dev nD) (k : ℕ) : sProp 𝕄 :=
  iprop(bigSep (Finset.Ico k 8) (OA d j c) ∗ bigSep (Finset.range k) (OD m d j c) ∗ TF d j c ∗ semVal ((c : Thread nD τ), SemLoc.dma (cpS d j)) 0)
/-- The copy of step `h` out of the staging tile, in flight. -/
def FL (d j : Fin 2) (c : Dev nD) (h : ℕ) : sProp 𝕄 :=
  Transfers.Flight EC (c : Thread nD τ) (SemLoc.dma (cpS d j)) 0 N iprop(OD m d j c h ∗ TF d j c)
/-- Before step `k`: the copy of step `k - 1`, if there is one, is in flight. -/
def Tl (d j : Fin 2) (c : Dev nD) (k : ℕ) : sProp 𝕄 :=
  if k = 0 then TW m d j c 0
  else iprop(bigSep (Finset.Ico k 8) (OA d j c) ∗ bigSep (Finset.range (k - 1)) (OD m d j c) ∗ FL m d j c (k - 1))

theorem Tl_zero (d j : Fin 2) (c : Dev nD) : Tl m d j c 0 = TW m d j c 0 := if_pos rfl
theorem Tl_succ (d j : Fin 2) (c : Dev nD) (k : ℕ) : Tl m d j c (k + 1) =
    iprop(bigSep (Finset.Ico (k + 1) 8) (OA d j c) ∗ bigSep (Finset.range k) (OD m d j c) ∗ FL m d j c k) := if_neg (Nat.succ_ne_zero k)

/-- One more of the first tiles. -/
theorem range_grow (Φ : ℕ → sProp 𝕄) (k : ℕ) : iprop(Φ k ∗ bigSep (Finset.range k) Φ) ⊢ bigSep (Finset.range (k + 1)) Φ :=
  Entails.of_eq (by rw [Finset.range_add_one, bigSep_insert Finset.notMem_range_self]; rfl)
/-- The first of the tiles still to come. -/
theorem Ico_take (Φ : ℕ → sProp 𝕄) {k n : ℕ} (h : k < n) : bigSep (Finset.Ico k n) Φ ⊢ iprop(Φ k ∗ bigSep (Finset.Ico (k + 1) n) Φ) :=
  Entails.of_eq (by rw [Ico_first h, bigSep_insert Ico_first_not]; rfl)

/-- The wait for the copy in flight. -/
theorem tileWait_step (d j : Fin 2) (c : Dev nD) (k : ℕ) {q : DmaSem sig} (hq : q = cpS d j)
    {sp sp' : Space} {sh' : Shape} {e' : EltTy} {srcM : Memref sig .tc sp sh' e'} {dstM : Memref sig .tc sp' S1536x1536 .bf16} {hsrc : srcM.view.WordExact} {hdst : dstM.view.WordExact}
    (hN : dstM.view.dmaCredit = N)
    {α : Type} {p : PUnit → Prog (TpuEff nD τ sig (Elt F) Λ₀ .tc) α} {Q : α → sProp 𝕄}
    {O : CellTallies nD τ sig ℕ} (hO : Low O 0) :
    iprop(Bun m K KS ∗ Tl m d j c (k + 1) ∗ OW c O)
      ⊢ iprop((iprop(TW m d j c (k + 1) ∗ OW c O) -∗ WP c (p ⟨⟩) Q) -∗ WP c (.op (.waitDma2 q srcM dstM hsrc hdst) p) Q) := by
  subst hq
  rw [Tl_succ]
  unfold OW FL
  iintro ⟨#HB, ⟨HA, HD, HF⟩, ⟨%W, HO⟩⟩ Hk
  ihave #Hlev := (Bun_lev m K KS) $$ HB
  iapply (Transfers.wp_waitLocalO EC 𝒱₀ (c : Thread nD τ) none 0 hN) $$ [HF HO]
  · isplitl [HF]; · iexact HF
    isplitl [HO]; · iexact HO
    iapply (mayWait hO c (.dma (cpS d j)) 0 (by omega) (le_of_eq (by dsimp only [lv]; rw [dec_cpS]))) $$ Hlev
  iintro ⟨⟨HD1, HT⟩, Hv, HO⟩
  iapply Hk
  isplitr [HO]
  · unfold TW
    isplitl [HA]; · iexact HA
    isplitl [HD HD1]
    · iapply (range_grow (OD m d j c) k)
      isplitl [HD1] <;> iassumption
    isplitl [HT]; · iexact HT
    iexact Hv
  · iexists _; iexact HO

/-- The wait the program does from step 1 on. -/
theorem tileWaitIf_step (d j : Fin 2) (c : Dev nD) (k : ℕ) {cnd : Prop} [Decidable cnd] (hc : cnd ↔ 1 ≤ k) {q : DmaSem sig} (hq : q = cpS d j)
    {sp sp' : Space} {sh' : Shape} {e' : EltTy} {srcM : Memref sig .tc sp sh' e'} {dstM : cnd → Memref sig .tc sp' S1536x1536 .bf16}
    {hsrc : srcM.view.WordExact} {hdst : ∀ h, (dstM h).view.WordExact}
    (hN : ∀ h, (dstM h).view.dmaCredit = N)
    {α : Type} {p : Prog (TpuEff nD τ sig (Elt F) Λ₀ .tc) α} {Q : α → sProp 𝕄}
    {O : CellTallies nD τ sig ℕ} (hO : Low O 0) :
    iprop(Bun m K KS ∗ Tl m d j c k ∗ OW c O)
      ⊢ iprop((iprop(TW m d j c k ∗ OW c O) -∗ WP c p Q)
          -∗ WP c (if h : cnd then .op (.waitDma2 q srcM (dstM h) hsrc (hdst h)) (fun _ => p) else p) Q) := by
  by_cases hk : k = 0
  · subst hk
    rw [dif_neg (fun h => absurd (hc.mp h) (by omega)), Tl_zero]
    iintro ⟨#HB, HT, HO⟩ Hk
    iapply Hk
    isplitl [HT] <;> iassumption
  · obtain ⟨k, rfl⟩ := Nat.exists_eq_succ_of_ne_zero hk
    rw [dif_pos (hc.mpr (by omega))]
    exact tileWait_step m K KS d j c k hq (p := fun _ => p) (hN (hc.mpr (by omega))) hO

/-- What is loaded of a slot, cast to the shape of a tile, is what the slot holds. -/
theorem read_slot (d s : Fin 2) (f : (cV d s).view.ty.Contents (Elt F)) :
    shapeCast S1536x1536 (((cM.access (Rect.unit (s := S2x3072x1536) ![s.val, 1536 * d.val, 0] S1x1536x1536.size (cOff_inb d s))) : View sig .tc _ _ _).read (Elt F) f)
      shapeCasts_S1x1536x1536_S1536x1536 = (cV d s).view.read (Elt F) f := rfl

theorem set_slot (d s : Fin 2) :
    ((cM.access (Rect.unit (s := S2x3072x1536) ![s.val, 1536 * d.val, 0] S1x1536x1536.size (cOff_inb d s))) : View sig .tc _ _ _).set = (cV d s).view.set :=
  (View.set_reshape _ _).symm

/-- What the copy out of the staging tile leaves. -/
theorem copied (d j : Fin 2) (c : Dev nD) (k : ℕ) (fo : (oV d j (orig d c k)).view.ty.Contents (Elt F)) (g : (tV d j).view.ty.Contents (Elt F))
    (X : Tile F) (hX : X = val m d j c k) :
    iprop(((oV d j (orig d c k)).view.loc (c : Thread nD τ) ↦[(oV d j (orig d c k)).view.set]{fullShare} (oV d j (orig d c k)).view.write (Elt F) fo X Finset.univ)
      ∗ ((tV d j).view.loc (c : Thread nD τ) ↦[(tV d j).view.set]{fullShare} g)) ⊢ (iprop(OD m d j c k ∗ TF d j c) : sProp 𝕄) := by
  subst hX
  have h := owns_intro (Ix := ℕ) (Name := ℕ) (U := UU) (Lvl := ℕ) (c : Thread nD τ) (oV d j (orig d c k)) fullShare ((oV d j (orig d c k)).view.write (Elt F) fo (val m d j c k) Finset.univ)
  rw [View.read_write_univ] at h
  unfold OD TF
  iintro ⟨Ho, Ht⟩
  isplitl [Ho]
  · iapply h $$ Ho
  iexists _
  iapply (owns_intro (c : Thread nD τ) (tV d j) fullShare g) $$ Ht

/-- One step of a tile: the slot and the columns of `B` are loaded, their product stored in the staging tile, and its copy
    to the result started. -/
theorem tile_step (d j s : Fin 2) (c : Dev nD) (k : ℕ) (hk : k < 8) (q : PosShare TreeShare)
    {offC : Fin 3 → ℕ} (hC : offC = ![s.val, 1536 * d.val, 0]) {offB offT offO : Fin 2 → ℕ} (hB : offB = ![0, 1536 * j.val])
    (hT : offT = ![1536 * d.val, 1536 * j.val]) (hO : offO = ![3072 * (orig d c k).val + 1536 * d.val, 1536 * j.val])
    {inbC : ∀ a, offC a + S1x1536x1536.size a ≤ S2x3072x1536.size a} {inbB : ∀ a, offB a + S1536x1536.size a ≤ S1536x3072.size a}
    {inbT : ∀ a, offT a + S1536x1536.size a ≤ S3072x3072.size a} {inbO : ∀ a, offO a + S1536x1536.size a ≤ S24576x3072.size a}
    {hl1 : cM.view.LoadsAt (Rect.unit (s := S2x3072x1536) offC S1x1536x1536.size inbC).toLoadRect}
    {hl2 : bM.view.LoadsAt (Rect.unit (s := S1536x3072) offB S1536x1536.size inbB).toLoadRect}
    {hl3 : tM.view.LoadsAt (Rect.unit (s := S3072x3072) offT S1536x1536.size inbT).toLoadRect}
    {hx : (tM.access (Rect.unit (s := S3072x3072) offT S1536x1536.size inbT)).Stores Finset.univ}
    {hm : (Finset.univ : Finset (Rect.unit (s := S3072x3072) offT S1536x1536.size inbT).shape.Idx) = Finset.univ ∨ ∀ a, (Rect.unit (s := S3072x3072) offT S1536x1536.size inbT).stride a = 1}
    {pay : (S1x1536x1536.Idx → Elt F .bf16) → Tile F → Tile F}
    (hpay : ∀ x y, pay x y = mm (shapeCast S1536x1536 x shapeCasts_S1x1536x1536_S1536x1536) y)
    {dsem : DmaSem sig} (hq : dsem = cpS d j)
    {hs1 : ∀ a, (Rect.unit (s := S3072x3072) offT S1536x1536.size inbT).stride a = 1} {hs2 : ∀ a, (Rect.unit (s := S24576x3072) offO S1536x1536.size inbO).stride a = 1}
    {hsrc : (tM.slice (Rect.unit (s := S3072x3072) offT S1536x1536.size inbT) hs1).view.WordExact}
    {hdst : (oM.slice (Rect.unit (s := S24576x3072) offO S1536x1536.size inbO) hs2).view.WordExact}
    {hsem : DmaTarget.Typed (nD := nD) (τ := τ) (p := .tc) .vmem (.dma dsem) (.here (oM.slice (Rect.unit (s := S24576x3072) offO S1536x1536.size inbO) hs2))}
    {α : Type} {p : PUnit → Prog (TpuEff nD τ sig (Elt F) Λ₀ .tc) α} {Q : α → sProp 𝕄} :
    iprop(owns (c : Thread nD τ) (cV d s) q (half m d (orig d c k)) ∗ BO m c ∗ TW m d j c k)
      ⊢ iprop((iprop(owns (c : Thread nD τ) (cV d s) q (half m d (orig d c k)) ∗ BO m c ∗ Tl m d j c (k + 1)) -∗ WP c (p ⟨⟩) Q)
          -∗ WP c (.op (.load cM (Rect.unit (s := S2x3072x1536) offC S1x1536x1536.size inbC).toLoadRect hl1) fun x =>
              .op (.load bM (Rect.unit (s := S1536x3072) offB S1536x1536.size inbB).toLoadRect hl2) fun y =>
              .op (.load tM (Rect.unit (s := S3072x3072) offT S1536x1536.size inbT).toLoadRect hl3) fun _ =>
              .op (.store tM (Rect.unit (s := S3072x3072) offT S1536x1536.size inbT) (pay x y) Finset.univ hx hm) fun _ =>
              .op (.enqueueDma (tM.slice (Rect.unit (s := S3072x3072) offT S1536x1536.size inbT) hs1)
                (.here (oM.slice (Rect.unit (s := S24576x3072) offO S1536x1536.size inbO) hs2)) (.dma dsem) hsrc hdst hsem) p) Q) := by
  subst hC hB hT hO hq
  rw [Tl_succ]
  unfold TW TF BO owns
  iintro ⟨⟨%f, %hf, Hc⟩, Hb, HA, HD, ⟨%Z, %ft, %hft, Ht⟩, Hv⟩ Hk
  ihave HA := (Ico_take (OA d j c) hk) $$ HA
  icases HA with ⟨HA1, HA⟩
  unfold OA owns
  icases HA1 with ⟨%Z', %fo, %hfo, Ho⟩
  iapply (wp_load_rect 𝒱₀ (c : Thread nD τ) none Set.univ (q := q) (f := f) (le_of_eq (set_slot d s))) $$ Hc
  iintro Hc
  iapply (wp_load_rect 𝒱₀ (c : Thread nD τ) none Set.univ (q := fullShare) (m := bM) (r := Rect.unit (s := S1536x3072) ![0, 1536 * j.val] S1536x1536.size inbB) (f := bstg m c) (S := Finset.univ) (Finset.subset_univ _)) $$ Hb
  iintro Hb
  iapply (wp_load_rect 𝒱₀ (c : Thread nD τ) none Set.univ (q := fullShare) (f := ft) (S := (tV d j).view.set) (Finset.Subset.refl _)) $$ Ht
  iintro Ht
  iapply (wp_store 𝒱₀ (c : Thread nD τ) none Set.univ (f := ft) (S := (tV d j).view.set) (by rw [View.setOn_univ])) $$ Ht
  iintro Ht
  rw [hpay, read_slot, hf]
  iapply (Transfers.wp_dmaLocal EC 𝒱₀ (c : Thread nD τ) none (src := tV d j) (dst := oV d j (orig d c k)) (Sd := (oV d j (orig d c k)).view.set) (fd := fo) 0 N
      (by unfold N; rfl) N_pos (Finset.Subset.refl _)) $$ [Ht Ho Hv]
  · isplitl [Ht]; · iexact Ht
    isplitl [Ho]; · iexact Ho
    iexact Hv
  iintro HF
  iapply Hk
  isplitl [Hc]
  · iexists f
    isplitr; · ipureintro; exact hf
    iexact Hc
  isplitl [Hb]; · iexact Hb
  isplitl [HA]; · iexact HA
  isplitl [HD]; · iexact HD
  unfold FL
  iapply (Transfers.Flight_mono EC (c : Thread nD τ) (copied m d j c k fo _ _ ?_)) $$ HF
  exact View.read_write_univ _ _

end Cert.Ring
-- ==== Proof.Steps.lean ====
/-
The steps of the two rings: one lemma for each kind of step, at a symbolic device and a symbolic hop. Each lemma takes
the memrefs and semaphores as the program names them, with their equations to the protocol's own.
-/
module

public import proofs.«01_k».proof.Proof.Base

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]
local notation "𝕄" => MM F

variable (m : (ℓ : Loc nD τ sig) → Buf (Elt F) ℓ) (ρ : Dev nD → PrngReg)
variable (K : Dev nD × Kd → ℕ) (KS : Key → ℕ)

/-- The wait for the device's own transfer of hop `h`: the lent half of the source is back. -/
theorem sendWait_step (d : Fin 2) (c : Dev nD) (h : ℕ) (h7 : h < 7) {sS : DmaSem sig} (hsS : sS = sendS d (par h))
    {sp sp' : Space} {sh' : Shape} {e' : EltTy} {srcM : Memref sig .tc sp sh' e'} {dstM : Memref sig .tc sp' S1536x1536 .bf16} {hsrc : srcM.view.WordExact} {hdst : dstM.view.WordExact}
    (hN : dstM.view.dmaCredit = N)
    {α : Type} {k : PUnit → Prog (TpuEff nD τ sig (Elt F) Λ₀ .tc) α} {Q : α → sProp 𝕄}
    {O : CellTallies nD τ sig ℕ} (hO : Low O 0) :
    iprop(Bun m K KS ∗ cred (tallyAt (cell c (.send d (par h))) 0 N) ∗ OW c O ∗ atPos ER (cell c (.send d (par h))) (h / 2) ∅ 0
        ∗ owns (c : Thread nD τ) (cV d (par h)) fullShare.right (half m d (orig d c h)))
      ⊢ iprop((iprop(OW c O ∗ atPos ER (cell c (.send d (par h))) (h / 2 + 1) ∅ 0 ∗ reached ER (cell c (.send d (par h))) (h / 2 + 1)
            ∗ owns (c : Thread nD τ) (cV d (par h)) fullShare (half m d (orig d c h))) -∗ WP c (k ⟨⟩) Q)
          -∗ WP c (.op (.waitDma2 sS srcM dstM hsrc hdst) k) Q) := by
  subst hsS
  unfold OW
  iintro ⟨#HB, Hc, ⟨%W, HO⟩, Hat, HsR⟩ Hk
  ihave Hc1 := (Bun_cell m K KS c (.send d (par h))) $$ HB
  icases Hc1 with ⟨#HI, -⟩
  ihave #Hlev := (Bun_lev m K KS) $$ HB
  iapply (Rounds.wp_wait_rest_token 𝒱₀ ER (Rd m) (c : Thread nD τ) none (κ := K (c, .send d (par h)))
      (wpE_waitDma2_eq 𝒱₀ (c : Thread nD τ) none Set.univ) (Set.mem_univ _) 0 (R := h / 2) (m := 0) (T := ∅)
      (by rw [hN]; show 0 + N = (Rd m).expect (cell c (.send d (par h))) (h / 2); rw [Rd_expect m c _ (send_round h7)]; show 0 + N = 1 * N; omega))
    $$ [Hc HO Hat]
  · isplitr; · iexact HI
    isplitl [Hc]; · rw [hN]; iexact Hc
    isplitl [HO]; · iexact HO
    isplitr
    · iapply (mayWait hO c (semOf (.send d (par h))) 0 (by omega) (le_of_eq (lv_cell c (.send d (par h)) 0))) $$ Hlev
    iexact Hat
  iintro ⟨HO, Hat, Hr, Hpay⟩
  iapply Hk
  isplitl [HO]; · iexists _; iexact HO
  isplitl [Hat]; · iexact Hat
  isplitl [Hr]; · iexact Hr
  have hrest : bigSep ((Rd m).duties (cell c (.send d (par h))) (h / 2) \ ∅) (fun i => (Rd m).payload (cell c (.send d (par h))) (h / 2) i)
      = owns (c : Thread nD τ) (cV d (par h)) fullShare.left (half m d (orig d c h)) := by
    rw [Finset.sdiff_empty, Rd_duties m c _ (send_round h7)]
    show bigSep {0} _ = _
    rw [bigSep_singleton, Rd_payload]
    dsimp only [pay]
    rw [two_par]
  ihave HsL := (Entails.of_eq hrest) $$ Hpay
  iapply (owns_halves _ _ _ _).2
  isplitl [HsL] <;> iassumption

/-- The wait for the neighbour's transfer of hop `h`: the slot is the device's, with what was sent. -/
theorem recvWait_step (d : Fin 2) (c : Dev nD) (h : ℕ) (h7 : h < 7) {sR : DmaSem sig} (hsR : sR = recvS d (par (h + 1)))
    {sp sp' : Space} {sh' : Shape} {e' : EltTy} {srcM : Memref sig .tc sp sh' e'} {dstM : Memref sig .tc sp' S1536x1536 .bf16} {hsrc : srcM.view.WordExact} {hdst : dstM.view.WordExact}
    (hN : dstM.view.dmaCredit = N)
    {α : Type} {k : PUnit → Prog (TpuEff nD τ sig (Elt F) Λ₀ .tc) α} {Q : α → sProp 𝕄}
    {O : CellTallies nD τ sig ℕ} (hO : Low O (h + 2)) :
    iprop(Bun m K KS ∗ cred (tallyAt (cell c (.recv d (par (h + 1)))) h N) ∗ OW c O ∗ atPos ER (cell c (.recv d (par (h + 1)))) (h / 2) ∅ 0)
      ⊢ iprop((iprop(OW c O ∗ atPos ER (cell c (.recv d (par (h + 1)))) (h / 2 + 1) ∅ 0 ∗ reached ER (cell c (.recv d (par (h + 1)))) (h / 2 + 1)
            ∗ owns (c : Thread nD τ) (cV d (par (h + 1))) fullShare (half m d (orig d c (h + 1)))) -∗ WP c (k ⟨⟩) Q)
          -∗ WP c (.op (.waitDma2 sR srcM dstM hsrc hdst) k) Q) := by
  subst hsR
  unfold OW
  iintro ⟨#HB, Hc, ⟨%W, HO⟩, Hat⟩ Hk
  ihave Hc1 := (Bun_cell m K KS c (.recv d (par (h + 1)))) $$ HB
  icases Hc1 with ⟨#HI, -⟩
  ihave #Hlev := (Bun_lev m K KS) $$ HB
  iapply (Rounds.wp_wait_rest_token 𝒱₀ ER (Rd m) (c : Thread nD τ) none (κ := K (c, .recv d (par (h + 1))))
      (wpE_waitDma2_eq 𝒱₀ (c : Thread nD τ) none Set.univ) (Set.mem_univ _) h (R := h / 2) (m := 0) (T := ∅)
      (by rw [hN]; show 0 + N = (Rd m).expect (cell c (.recv d (par (h + 1)))) (h / 2); rw [Rd_expect m c _ (recv_round h7)]; show 0 + N = 1 * N; omega))
    $$ [Hc HO Hat]
  · isplitr; · iexact HI
    isplitl [Hc]; · rw [hN]; iexact Hc
    isplitl [HO]; · iexact HO
    isplitr
    · iapply (mayWait hO c (semOf (.recv d (par (h + 1)))) h (by omega) (le_of_eq (lv_cell c (.recv d (par (h + 1))) h))) $$ Hlev
    iexact Hat
  iintro ⟨HO, Hat, Hr, Hpay⟩
  iapply Hk
  isplitl [HO]; · iexists _; iexact HO
  isplitl [Hat]; · iexact Hat
  isplitl [Hr]; · iexact Hr
  have hrest : bigSep ((Rd m).duties (cell c (.recv d (par (h + 1)))) (h / 2) \ ∅) (fun i => (Rd m).payload (cell c (.recv d (par (h + 1)))) (h / 2) i)
      = owns (c : Thread nD τ) (cV d (par (h + 1))) fullShare (half m d (orig d c (h + 1))) := by
    rw [Finset.sdiff_empty, Rd_duties m c _ (recv_round h7)]
    show bigSep {0} _ = _
    rw [bigSep_singleton, Rd_payload]
    dsimp only [pay]
    rw [two_par']
  iapply (Entails.of_eq hrest) $$ Hpay

/-! ## The capacity units -/

/-- How far a device has come with its capacity cell before hop `k`: it has taken `k - 1` units, and so at least as many
    of the round's duties, each with the hops it allows. -/
def CapSt (d : Fin 2) (c : Dev nD) (k : ℕ) : sProp 𝕄 :=
  if k = 7 then atPos ER (cell c (.cap d)) 1 ∅ 0
  else iprop(∃ S : Finset ℕ, ⌜S ⊆ Finset.range 6 ∧ k - 1 ≤ S.card⌝ ∗ atPos ER (cell c (.cap d)) 0 S (k - 1)
    ∗ bigSep S (fun i => Rels (F := F) d (dst d c) (i + 2)))

theorem CapSt_seven (d : Fin 2) (c : Dev nD) : CapSt (F := F) d c 7 = atPos ER (cell c (.cap d)) 1 ∅ 0 := if_pos rfl
theorem CapSt_ne (d : Fin 2) (c : Dev nD) {k : ℕ} (hk : k ≠ 7) : CapSt (F := F) d c k =
    iprop(∃ S : Finset ℕ, ⌜S ⊆ Finset.range 6 ∧ k - 1 ≤ S.card⌝ ∗ atPos ER (cell c (.cap d)) 0 S (k - 1)
      ∗ bigSep S (fun i => Rels (F := F) d (dst d c) (i + 2))) := if_neg hk

/-- A set of `k` numbers has one that is at least `k - 1`. -/
theorem exists_ge {S : Finset ℕ} {k : ℕ} (hk : 1 ≤ k) (h : k ≤ S.card) : ∃ i ∈ S, k - 1 ≤ i := by
  by_contra hn
  push Not at hn
  have : S ⊆ Finset.range (k - 1) := fun i hi => Finset.mem_range.mpr (hn i hi)
  have := Finset.card_le_card this
  rw [Finset.card_range] at this
  omega

/-- Enough duties allow the hop. -/
theorem Rel_of {d : Fin 2} {e : Dev nD} {S : Finset ℕ} {k : ℕ} (hk : 1 ≤ k) (h : k ≤ S.card) :
    bigSep S (fun i => Rels (F := F) d e (i + 2)) ⊢ Rel d e k := by
  obtain ⟨i, hi, hik⟩ := exists_ge hk h
  have h1 : bigSep S (fun i => Rels (F := F) d e (i + 2)) ⊢ Rels d e (i + 2) := bigSep_elim (Φ := fun i => Rels (F := F) d e (i + 2)) hi
  refine h1.trans ?_
  unfold Rels
  exact bigSep_elim (Finset.mem_range.mpr (by omega))

/-- What the units taken bring, with what was there before. -/
theorem Rels_join {d : Fin 2} {c : Dev nD} {T S : Finset ℕ} (hTS : T ⊆ S) :
    iprop(bigSep T (fun i => Rels (F := F) d (dst d c) (i + 2)) ∗ bigSep (S \ T) (fun i => (Rd m).payload (cell c (.cap d)) 0 i))
      ⊢ bigSep S (fun i => Rels d (dst d c) (i + 2)) := by
  have he : (fun i => (Rd m).payload (cell c (.cap d)) 0 i) = (fun i => Rels (F := F) d (dst d c) (i + 2)) := funext fun i => Rd_payload m c (.cap d) 0 i
  rw [he]
  refine (Entails.of_eq (bigSep_union (Φ := fun i => Rels (F := F) d (dst d c) (i + 2)) Finset.disjoint_sdiff).symm).trans ?_
  rw [Finset.union_sdiff_of_subset hTS]

/-- A wait for one capacity unit before hop `k`: the hop is allowed. -/
theorem capWait_step (d : Fin 2) (c : Dev nD) (k : ℕ) (hk1 : 1 ≤ k) (hk6 : k ≤ 6) {sC : Sem sig} (hsC : sC = capS d) {n : ℤ} (hn : n = ((1 : ℕ) : ℤ))
    {α : Type} {p : PUnit → Prog (TpuEff nD τ sig (Elt F) Λ₀ .tc) α} {Q : α → sProp 𝕄}
    {O : CellTallies nD τ sig ℕ} (hO : Low O (k + 1)) :
    iprop(Bun m K KS ∗ CapSt d c k ∗ cred (tallyAt (cell c (.cap d)) (k - 1) 1) ∗ OW c O)
      ⊢ iprop((iprop(OW c O ∗ CapSt d c (k + 1) ∗ Rel d (dst d c) k) -∗ WP c (p ⟨⟩) Q)
          -∗ WP c (.op (.semWait sC n) p) Q) := by
  subst hsC hn
  unfold OW
  have hlv : lv (cell c (.cap d)) (k - 1) ≤ k + 1 := by rw [lv_cell]; show k - 1 + 2 ≤ k + 1; omega
  have hd : (Rd m).duties (cell c (.cap d)) 0 = Finset.range 6 := Rd_duties m c _ (Nat.one_pos)
  have hex : (Rd m).expect (cell c (.cap d)) 0 = 6 := by rw [Rd_expect m c (.cap d) Nat.one_pos]; rfl
  rw [CapSt_ne d c (show k ≠ 7 by omega)]
  by_cases hk : k = 6
  · rw [show k + 1 = 7 by omega, CapSt_seven]
    iintro ⟨#HB, ⟨%T, %hT, Hat, #HT⟩, Hc, ⟨%W, HO⟩⟩ Hk
    ihave Hc1 := (Bun_cell m K KS c (.cap d)) $$ HB
    icases Hc1 with ⟨#HI, -⟩
    ihave #Hlev := (Bun_lev m K KS) $$ HB
    iapply (Rounds.wp_wait_rest_token 𝒱₀ ER (Rd m) (c : Thread nD τ) none (κ := K (c, .cap d))
        (wpE_semWait_eq 𝒱₀ (c : Thread nD τ) none Set.univ) (Set.mem_univ _) (k - 1) (R := 0) (m := k - 1) (T := T)
        (by show k - 1 + 1 = (Rd m).expect (cell c (.cap d)) 0; rw [hex]; omega))
      $$ [Hc HO Hat]
    · isplitr; · iexact HI
      isplitl [Hc]; · iexact Hc
      isplitl [HO]; · iexact HO
      isplitr
      · iapply (mayWait hO c (semOf (.cap d)) (k - 1) (by omega) hlv) $$ Hlev
      iexact Hat
    iintro ⟨HO, Hat, -, Hpay⟩
    have hjoin := Rels_join (F := F) m (d := d) (c := c) (T := T) (S := Finset.range 6) hT.1
    ihave Hall := hjoin $$ [Hpay]
    · isplitr; · iexact HT
      rw [← hd]; iexact Hpay
    iapply Hk
    isplitl [HO]; · iexists _; iexact HO
    isplitl [Hat]; · iexact Hat
    iapply (Rel_of hk1 (S := Finset.range 6) (by rw [Finset.card_range]; omega)) $$ Hall
  · rw [CapSt_ne d c (show k + 1 ≠ 7 by omega)]
    iintro ⟨#HB, ⟨%T, %hT, Hat, #HT⟩, Hc, ⟨%W, HO⟩⟩ Hk
    ihave Hc1 := (Bun_cell m K KS c (.cap d)) $$ HB
    icases Hc1 with ⟨#HI, -⟩
    ihave #Hlev := (Bun_lev m K KS) $$ HB
    iapply (Rounds.wp_wait 𝒱₀ ER (Rd m) (c : Thread nD τ) none (κ := K (c, .cap d))
        (wpE_semWait_eq 𝒱₀ (c : Thread nD τ) none Set.univ) (Set.mem_univ _) (cr := Finsupp.single (k - 1) 1)
        {(semOf (.cap d), k - 1)} (R := 0) (m := k - 1) (T := T)
        (by rw [Util.total_single]) (image_single_subset (semOf (.cap d)) (k - 1) 1))
      $$ [Hc HO Hat]
    · isplitr; · iexact HI
      isplitl [Hc]; · iexact Hc
      isplitl [HO]; · iexact HO
      isplitr
      · iapply (mayWait hO c (semOf (.cap d)) (k - 1) (by omega) hlv) $$ Hlev
      iexact Hat
    iintro %S ⟨%hS, HO, Hat, Hpay⟩
    have hS' : T ⊆ S ∧ S ⊆ Finset.range 6 ∧ (k - 1) + 1 + (Finset.range 6 \ S).card ≤ 6 := by
      obtain ⟨h1, h2, h3⟩ := hS
      refine ⟨h1, hd ▸ h2, ?_⟩
      have h3' : k - 1 + 1 + ((Rd m).duties (cell c (.cap d)) 0 \ S).card ≤ (Rd m).expect (cell c (.cap d)) 0 := h3
      rwa [hd, hex] at h3'
    have hcard : k ≤ S.card := by
      have h3 := hS'.2.2
      rw [Finset.card_sdiff_of_subset hS'.2.1, Finset.card_range] at h3
      have := Finset.card_le_card hS'.2.1
      rw [Finset.card_range] at this
      omega
    have hjoin := Rels_join (F := F) m (d := d) (c := c) hS'.1
    ihave #Hall := hjoin $$ [Hpay]
    · isplitr; · iexact HT
      iexact Hpay
    iapply Hk
    isplitl [HO]; · iexists _; iexact HO
    isplitl [Hat]
    · iexists S
      isplitr; · ipureintro; exact ⟨hS'.2.1, by omega⟩
      isplitl [Hat]
      · have hk' : k - 1 + 1 = k + 1 - 1 := by omega
        rw [← hk']; iexact Hat
      iexact Hall
    iapply (Rel_of hk1 hcard) $$ Hall

/-- A capacity unit given at hop `i`, saying which of the device's slots are free. -/
theorem capSignal_step (d : Fin 2) (c n : Dev nD) (i : ℕ) (h6 : i < 6) (hn : n = src d c) {sC : Sem sig} (hsC : sC = capS d) {x : ℤ} (hx : x = ((1 : ℕ) : ℤ))
    {α : Type} {p : PUnit → Prog (TpuEff nD τ sig (Elt F) Λ₀ .tc) α} {Q : α → sProp 𝕄}
    {O O' : CellTallies nD τ sig ℕ} (hO : O' = O + oCap d c i) :
    iprop(Bun m K KS ∗ dutyTok ER (cell (src d c) (.cap d)) 0 i ∗ Rels d c (i + 2) ∗ OW c O')
      ⊢ iprop((OW c O -∗ WP c (p ⟨⟩) Q) -∗ WP c (.op (.semSignal (Dev.tc n : Thread nD τ) sC x) p) Q) := by
  subst hn hsC hx
  unfold OW
  iintro ⟨#HB, Ht, Hrel, ⟨%W, HO⟩⟩ Hk
  ihave Hc1 := (Bun_cell m K KS (src d c) (.cap d)) $$ HB
  icases Hc1 with ⟨#HI, #Hr⟩
  iapply (Rounds.wp_signal 𝒱₀ ER (Rd m) (c : Thread nD τ) none (dst := ((src d c : Dev nD) : Thread nD τ)) (κ := K (src d c, .cap d)) (r := 0) (d := i)
      (by show i ∈ (Rd m).duties (cell (src d c) (.cap d)) 0; rw [Rd_duties m _ _ Nat.one_pos]; exact Finset.mem_range.mpr h6)
      (Rd_amount m (src d c) (.cap d) 0 i) i O hO (W := W)) $$ [HO Ht Hrel]
  · isplitr; · iexact HI
    isplitl [HO]; · iexact HO
    isplitl [Ht]; · iexact Ht
    isplitl [Hrel]
    · have hp : (Rd m).payload (cell (src d c) (.cap d)) 0 i = Rels d c (i + 2) := by
        rw [Rd_payload]; dsimp only [pay]; rw [dst_src]
      iapply (Entails.of_eq hp.symm) $$ Hrel
    iexact Hr
  iintro HO
  iapply Hk
  iexists W; iexact HO

end Cert.Ring
-- ==== Proof.Send.lean ====
/-
The transfer of a hop, at a symbolic device and a symbolic hop.
-/
module

public import proofs.«01_k».proof.Proof.Base

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]
local notation "𝕄" => MM F

variable (m : (ℓ : Loc nD τ sig) → Buf (Elt F) ℓ) (ρ : Dev nD → PrngReg)
variable (K : Dev nD × Kd → ℕ) (KS : Key → ℕ)

/-- The transfer of hop `h`: it lends half of the source, and takes the free slot of the receiver. -/
theorem send_step (d : Fin 2) (c n : Dev nD) (h : ℕ) (h7 : h < 7) {srcM dstM : Memref sig .tc .vmem S1536x1536 .bf16} {sS sR : DmaSem sig}
    (hn : n = dst d c) (hs : srcM = cV d (par h)) (hd : dstM = cV d (par (h + 1))) (hsS : sS = sendS d (par h)) (hsR : sR = recvS d (par (h + 1)))
    {hsc : (dstM : Memref sig (Dev.tc n : Thread nD τ).2.kind .vmem S1536x1536 .bf16).view.ref.isScScratch = false}
    {hsrc : srcM.view.WordExact} {hdst : dstM.view.WordExact}
    {hsem : DmaTarget.Typed .vmem (.dma sR) (.remote (Dev.tc n : Thread nD τ) dstM (.dma sS) hsc)}
    {α : Type} {k : PUnit → Prog (TpuEff nD τ sig (Elt F) Λ₀ .tc) α} {Q : α → sProp 𝕄}
    {O O' : CellTallies nD τ sig ℕ} (hO : O' = O + oSend d c h) :
    iprop(Bun m K KS ∗ owns (c : Thread nD τ) (cV d (par h)) fullShare (half m d (orig d c h)) ∗ Tok d c h
        ∗ reached ER (cell c (.send d (par h))) (h / 2) ∗ Rel d (dst d c) h ∗ OW c O')
      ⊢ iprop((iprop(cred (tallyAt (cell c (.send d (par h))) 0 N) ∗ OW c O
            ∗ owns (c : Thread nD τ) (cV d (par h)) fullShare.right (half m d (orig d c h))) -∗ WP c (k ⟨⟩) Q)
          -∗ WP c (.op (.enqueueDma srcM (.remote (Dev.tc n : Thread nD τ) dstM (.dma sS) hsc) (.dma sR) hsrc hdst hsem) k) Q) := by
  subst hn hs hd hsS hsR
  unfold Tok Rel OW
  iintro ⟨#HB, Hsrc, ⟨Ht1, Ht2, Htw⟩, #Hr1, ⟨#Hrel, #Hr2⟩, ⟨%W, HO⟩⟩ Hk
  ihave Hc1 := (Bun_cell m K KS c (.send d (par h))) $$ HB
  icases Hc1 with ⟨#HI1, -⟩
  ihave Hc2 := (Bun_cell m K KS (dst d c) (.recv d (par (h + 1)))) $$ HB
  icases Hc2 with ⟨#HI2, -⟩
  ihave #HS := (Bun_slot m K KS (dst d c, d, par (h + 1))) $$ HB
  imod (slot_take ES (Set.mem_univ _) (h / 2 + 1)) $$ [Htw] with Hslot
  · isplitr; · iexact HS
    isplitr; · iexact Hrel
    iexact Htw
  unfold SL
  icases Hslot with ⟨%X, Hslot⟩
  ihave Hsrc := (owns_halves _ _ _ _).1 $$ Hsrc
  icases Hsrc with ⟨HsL, HsR⟩
  ihave Hslot : owns ((dst d c : Dev nD) : Thread nD τ) (cV d (par (h + 1))) fullShare X $$ [Hslot]
  · iexact Hslot
  unfold owns
  icases HsL with ⟨%fs, %hfs, HsL⟩
  icases Hslot with ⟨%fd, %hfd, Hslot⟩
  iapply (Rounds.wp_send_pointsTo 𝒱₀ ER (Rd m) (c : Thread nD τ) none (c' := ((dst d c : Dev nD) : Thread nD τ)) (src := cV d (par h)) (dst := cV d (par (h + 1)))
      (hsc := hsc) (hsrc := hsrc) (hdst := hdst) (hsem := hsem) (sS := .dma (sendS d (par h))) (sem := .dma (recvS d (par (h + 1)))) (k := k) (Q := Q)
      (Es := Set.univ) (q := fullShare.left) (fs := fs) (κ₁ := K (c, .send d (par h))) (κ₂ := K (dst d c, .recv d (par (h + 1))))
      (r₁ := h / 2) (r₂ := h / 2) (d₁ := 0) (d₂ := 0) (fd := fd)
      (by show 0 ∈ (Rd m).duties (cell c (.send d (par h))) (h / 2); rw [Rd_duties m c _ (send_round h7)]; exact Finset.mem_singleton_self _)
      (by show 0 ∈ (Rd m).duties (cell (dst d c) (.recv d (par (h + 1)))) (h / 2); rw [Rd_duties m _ _ (recv_round h7)]; exact Finset.mem_singleton_self _)
      h 0 N (amount_eq d (par (h + 1)) (recvS d (par (h + 1)))) (Rd_amount m c (.send d (par h)) _ _) (Rd_amount m (dst d c) (.recv d (par (h + 1))) _ _) O hO (W := W) (sendPay_intro m d c h hfs) (recvPay_intro m d c h h7 hfs fd))
    $$ [HsL Hslot HO Ht1 Ht2]
  · isplitr; · iexact HI1
    isplitr; · iexact HI2
    isplitl [HsL]; · iexact HsL
    isplitl [Hslot]; · iexact Hslot
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  isplitl [HO]; · iexists W; iexact HO
  iexact HsR

end Cert.Ring
-- ==== Proof.Hops.lean ====
/-
What a direction of the ring holds between hops, the capacity units at a hop, and the program's semaphores and memrefs
under the protocol's names.
-/
module

public import proofs.«01_k».proof.Proof.Tiles
public import proofs.«01_k».proof.Proof.Steps
public import proofs.«01_k».proof.Proof.Send

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]
local notation "𝕄" => MM F

variable (m : (ℓ : Loc nD τ sig) → Buf (Elt F) ℓ) (ρ : Dev nD → PrngReg)
variable (K : Dev nD × Kd → ℕ) (KS : Key → ℕ)

/-! ## A direction between hops -/

/-- The tokens and receive credits of the hops to come. -/
def Fut (d : Fin 2) (c : Dev nD) (k : ℕ) : sProp 𝕄 :=
  bigSep (Finset.Ico k 7) (fun h => iprop(Tok d c h ∗ cred (tallyAt (cell c (.recv d (par (h + 1)))) h N)))
/-- The capacity credits to come. -/
def CapF (d : Fin 2) (c : Dev nD) (k : ℕ) : sProp 𝕄 := bigSep (Finset.Ico (k - 1) 6) (fun i => cred (tallyAt (cell c (.cap d)) i 1))
/-- The capacity duties to come. -/
def Dut (d : Fin 2) (c : Dev nD) (k : ℕ) : sProp 𝕄 := bigSep (Finset.Ico k 6) (fun i => dutyTok ER (cell (src d c) (.cap d)) 0 i)
/-- Where the device stands at the four cells of the direction's transfers. -/
def Pos (d : Fin 2) (c : Dev nD) (k : ℕ) : sProp 𝕄 :=
  iprop((atPos ER (cell c (.send d (par k))) (k / 2) ∅ 0 ∗ reached ER (cell c (.send d (par k))) (k / 2))
    ∗ (atPos ER (cell c (.send d (par (k + 1)))) ((k + 1) / 2) ∅ 0 ∗ reached ER (cell c (.send d (par (k + 1)))) ((k + 1) / 2))
    ∗ (atPos ER (cell c (.recv d (par (k + 1)))) (k / 2) ∅ 0)
    ∗ (atPos ER (cell c (.recv d (par k))) ((k + 1) / 2) ∅ 0 ∗ reached ER (cell c (.recv d (par k))) ((k + 1) / 2)))
/-- How often each slot has been released. -/
def Rdr (d : Fin 2) (c : Dev nD) (k : ℕ) : sProp 𝕄 :=
  iprop(readerAt ES (c, d, par (k + 1)) (k / 2 + 1) ∗ readerAt ES (c, d, par k) ((k + 1) / 2))
/-- The same before hop 7, when the slot of hop 6 is the device's for good. -/
def RdrK (d : Fin 2) (c : Dev nD) (k : ℕ) : sProp 𝕄 := if k = 7 then SL (c, d, 0) else Rdr d c k
theorem RdrK_seven (d : Fin 2) (c : Dev nD) : RdrK (F := F) d c 7 = SL (c, d, 0) := if_pos rfl
theorem RdrK_ne (d : Fin 2) (c : Dev nD) {k : ℕ} (h : k ≠ 7) : RdrK (F := F) d c k = Rdr d c k := if_neg h

/-- What a direction holds before hop `k`. -/
def Dir (d : Fin 2) (c : Dev nD) (k : ℕ) : sProp 𝕄 :=
  iprop(owns (c : Thread nD τ) (cV d (par k)) fullShare (half m d (orig d c k)) ∗ Pos d c k ∗ Fut d c k ∗ CapSt d c k ∗ CapF d c k
    ∗ Dut d c k ∗ Rels d c (min k 6 + 1) ∗ RdrK d c k ∗ Rel d (dst d c) 0)

/-! ## The capacity at a hop -/

theorem CapSt_first (d : Fin 2) (c : Dev nD) : CapSt (F := F) d c 0 ⊢ CapSt d c 1 := by
  rw [CapSt_ne d c (by decide), CapSt_ne d c (by decide)]

/-- The waits for capacity, which the program does from hop 1 on. -/
theorem capIf_step (c : Dev nD) (k : ℕ) (hk6 : k ≤ 6) {cnd : Prop} [Decidable cnd] (hc : cnd ↔ 1 ≤ k) {s0 s1 : Sem sig} (h0 : s0 = capS 0) (h1 : s1 = capS 1)
    {n0 n1 : ℤ} (hn0 : n0 = ((1 : ℕ) : ℤ)) (hn1 : n1 = ((1 : ℕ) : ℤ))
    {α : Type} {p : Prog (TpuEff nD τ sig (Elt F) Λ₀ .tc) α} {Q : α → sProp 𝕄}
    {O : CellTallies nD τ sig ℕ} (hO : Low O (k + 1)) :
    iprop(Bun m K KS ∗ (CapSt 0 c k ∗ CapF 0 c k ∗ Rel 0 (dst 0 c) 0) ∗ (CapSt 1 c k ∗ CapF 1 c k ∗ Rel 1 (dst 1 c) 0) ∗ OW c O)
      ⊢ iprop((iprop(OW c O ∗ (CapSt 0 c (k + 1) ∗ CapF 0 c (k + 1) ∗ Rel 0 (dst 0 c) k) ∗ (CapSt 1 c (k + 1) ∗ CapF 1 c (k + 1) ∗ Rel 1 (dst 1 c) k)) -∗ WP c p Q)
          -∗ WP c (if h : cnd then .op (.semWait s0 n0) (fun _ => .op (.semWait s1 n1) (fun _ => p)) else p) Q) := by
  by_cases hk : k = 0
  · subst hk
    rw [dif_neg (fun h => absurd (hc.mp h) (by omega)), show CapF (F := F) 0 c (0 + 1) = CapF 0 c 0 from rfl, show CapF (F := F) 1 c (0 + 1) = CapF 1 c 0 from rfl]
    iintro ⟨#HB, ⟨H0, F0, R0⟩, ⟨H1, F1, R1⟩, HO⟩ Hk
    iapply Hk
    isplitl [HO]; · iexact HO
    isplitl [H0 F0 R0]
    · isplitl [H0]; · iapply (CapSt_first 0 c) $$ H0
      isplitl [F0] <;> iassumption
    · isplitl [H1]; · iapply (CapSt_first 1 c) $$ H1
      isplitl [F1] <;> iassumption
  · rw [dif_pos (hc.mpr (by omega))]
    have hk' : k + 1 - 1 = k - 1 + 1 := by omega
    unfold CapF
    rw [hk']
    iintro ⟨#HB, ⟨H0, F0, -⟩, ⟨H1, F1, -⟩, HO⟩ Hk
    ihave F0 := (Ico_take (fun i => cred (tallyAt (cell c (.cap 0)) i 1)) (show k - 1 < 6 by omega)) $$ F0
    ihave F1 := (Ico_take (fun i => cred (tallyAt (cell c (.cap 1)) i 1)) (show k - 1 < 6 by omega)) $$ F1
    icases F0 with ⟨C0, F0⟩
    icases F1 with ⟨C1, F1⟩
    iapply (capWait_step m K KS 0 c k (by omega) hk6 h0 hn0 hO) $$ [H0 C0 HO]
    · isplitr; · iexact HB
      isplitl [H0]; · iexact H0
      isplitl [C0] <;> iassumption
    iintro ⟨HO, H0, R0⟩
    iapply (capWait_step m K KS 1 c k (by omega) hk6 h1 hn1 hO) $$ [H1 C1 HO]
    · isplitr; · iexact HB
      isplitl [H1]; · iexact H1
      isplitl [C1] <;> iassumption
    iintro ⟨HO, H1, R1⟩
    iapply Hk
    isplitl [HO]; · iexact HO
    isplitl [H0 F0 R0]
    · isplitl [H0]; · iexact H0
      isplitl [F0] <;> iassumption
    · isplitl [H1]; · iexact H1
      isplitl [F1] <;> iassumption

/-- The slot a hop was sent from is released, and the hop after next is allowed to the neighbour. -/
theorem release_step (d : Fin 2) (c : Dev nD) (k : ℕ) (X : Tile F) :
    iprop(Bun m K KS ∗ owns (c : Thread nD τ) (cV d (par k)) fullShare X ∗ Rdr d c k ∗ reached ER (cell c (.recv d (par k))) ((k + 1) / 2))
      ⊢ |={Set.univ}=> iprop(Rdr d c (k + 1) ∗ Rel d c (k + 1)) := by
  unfold Rdr Rel
  rw [show k + 1 + 1 = k + 2 from rfl, par_add_two, show (k + 2) / 2 = k / 2 + 1 by omega]
  iintro ⟨#HB, Hc, ⟨H1, H0⟩, #Hr⟩
  ihave #HS := (Bun_slot m K KS (c, d, par k)) $$ HB
  imod (slot_release ES (Set.mem_univ (KS (c, d, par k))) (SL_excl (c, d, par k)) ((k + 1) / 2)) $$ [Hc H0] with ⟨H0, Hrel⟩
  · isplitr; · iexact HS
    isplitl [H0]; · iexact H0
    unfold SL; iexists X; iexact Hc
  imodintro
  isplitl [H0 H1]
  · isplitl [H0]; · iexact H0
    iexact H1
  · isplitl [Hrel]; · iexact Hrel
    iexact Hr

theorem Rels_grow (d : Fin 2) (c : Dev nD) (n : ℕ) : iprop(Rel d c n ∗ Rels d c n) ⊢ (Rels d c (n + 1) : sProp 𝕄) := by
  unfold Rels; exact range_grow (Rel d c) n

/-- What a direction holds when the slot of hop `k` is to be given back. -/
def Give (d : Fin 2) (c : Dev nD) (k : ℕ) : sProp 𝕄 :=
  iprop(owns (c : Thread nD τ) (cV d (par k)) fullShare (half m d (orig d c k)) ∗ RdrK d c k ∗ reached ER (cell c (.recv d (par k))) ((k + 1) / 2)
    ∗ Dut d c k ∗ Rels d c (min k 6 + 1))
/-- What it holds afterwards. -/
def Gave (d : Fin 2) (c : Dev nD) (k : ℕ) : sProp 𝕄 := iprop(RdrK d c (k + 1) ∗ Dut d c (k + 1) ∗ Rels d c (min (k + 1) 6 + 1))

/-- One direction's release and signal. -/
theorem give_step (d : Fin 2) (c n : Dev nD) (k : ℕ) (h6 : k < 6) (hn : n = src d c) {sC : Sem sig} (hsC : sC = capS d) {x : ℤ} (hx : x = ((1 : ℕ) : ℤ))
    {α : Type} {p : PUnit → Prog (TpuEff nD τ sig (Elt F) Λ₀ .tc) α} {Q : α → sProp 𝕄}
    {O O' : CellTallies nD τ sig ℕ} (hO : O' = O + oCap d c k) :
    iprop(Bun m K KS ∗ Give m d c k ∗ OW c O')
      ⊢ iprop((iprop(OW c O ∗ Gave d c k) -∗ WP c (p ⟨⟩) Q) -∗ WP c (.op (.semSignal (Dev.tc n : Thread nD τ) sC x) p) Q) := by
  unfold Give Gave Dut
  rw [RdrK_ne d c (show k ≠ 7 by omega), RdrK_ne d c (show k + 1 ≠ 7 by omega), show min k 6 + 1 = k + 1 by omega, show min (k + 1) 6 + 1 = k + 2 by omega]
  iintro ⟨#HB, ⟨Hc, Hrd, Hr, Hd, #HR⟩, HO⟩ Hk
  imod (release_step m K KS d c k (half m d (orig d c k))) $$ [Hc Hrd Hr] with ⟨Hrd, #Hrel⟩
  · isplitr; · iexact HB
    isplitl [Hc]; · iexact Hc
    isplitl [Hrd] <;> iassumption
  ihave Hd := (Ico_take (fun i => dutyTok ER (cell (src d c) (.cap d)) 0 i) h6) $$ Hd
  icases Hd with ⟨Hd1, Hd⟩
  ihave #HR2 := (Rels_grow d c (k + 1)) $$ []
  · isplitr; · iexact Hrel
    iexact HR
  iapply (capSignal_step m K KS d c n k h6 hn hsC hx hO) $$ [Hd1 HO]
  · isplitr; · iexact HB
    isplitl [Hd1]; · iexact Hd1
    isplitr; · iexact HR2
    iexact HO
  iintro HO
  iapply Hk
  isplitl [HO]; · iexact HO
  isplitl [Hrd]; · iexact Hrd
  isplitl [Hd]; · iexact Hd
  iexact HR2

theorem give_last (d : Fin 2) (c : Dev nD) : Give m d c 6 ⊢ Gave d c 6 := by
  unfold Give Gave
  rw [RdrK_seven]
  unfold Dut SL
  rw [Finset.Ico_self, Finset.Ico_eq_empty_of_le (show 6 ≤ 6 + 1 by omega)]
  iintro ⟨Hc, -, -, Hd, HR⟩
  isplitl [Hc]; · iexists _; iexact Hc
  isplitl [Hd]; · iexact Hd
  iexact HR

/-- The two signals, which the program does before hop 6. -/
theorem giveIf_step (c : Dev nD) (k : ℕ) (hk6 : k ≤ 6) {cnd : Prop} [Decidable cnd] (hc : cnd ↔ k < 6) {n0 n1 : cnd → Dev nD} (hn0 : ∀ h, n0 h = src 0 c) (hn1 : ∀ h, n1 h = src 1 c)
    {s0 s1 : Sem sig} (h0 : s0 = capS 0) (h1 : s1 = capS 1) {x0 x1 : ℤ} (hx0 : x0 = ((1 : ℕ) : ℤ)) (hx1 : x1 = ((1 : ℕ) : ℤ))
    {α : Type} {p : Prog (TpuEff nD τ sig (Elt F) Λ₀ .tc) α} {Q : α → sProp 𝕄} :
    iprop(Bun m K KS ∗ Give m 0 c k ∗ Give m 1 c k ∗ OW c (Ob c (k + 1) k (k + 1) k))
      ⊢ iprop((iprop(OW c (Ob c (k + 1) (k + 1) (k + 1) (k + 1)) ∗ Gave 0 c k ∗ Gave 1 c k) -∗ WP c p Q)
          -∗ WP c (if h : cnd then .op (.semSignal (Dev.tc (n0 h) : Thread nD τ) s0 x0) (fun _ => .op (.semSignal (Dev.tc (n1 h) : Thread nD τ) s1 x1) (fun _ => p)) else p) Q) := by
  by_cases hk : k = 6
  · subst hk
    rw [dif_neg (fun h => absurd (hc.mp h) (by omega))]
    have hO : Ob c (6 + 1) 6 (6 + 1) 6 = Ob c (6 + 1) (6 + 1) (6 + 1) (6 + 1) := by
      unfold Ob; rw [Ow_end 0 c (by omega) (by omega), Ow_end 1 c (by omega) (by omega), Ow_end 0 c (by omega) (by omega), Ow_end 1 c (by omega) (by omega)]
    rw [hO]
    iintro ⟨#HB, G0, G1, HO⟩ Hk
    iapply Hk
    isplitl [HO]; · iexact HO
    isplitl [G0]
    · iapply (give_last m 0 c) $$ G0
    · iapply (give_last m 1 c) $$ G1
  · rw [dif_pos (hc.mpr (by omega))]
    iintro ⟨#HB, G0, G1, HO⟩ Hk
    iapply (give_step m K KS 0 c _ k (by omega) (hn0 _) h0 hx0 (O' := Ob c (k + 1) k (k + 1) k) (O := Ob c (k + 1) (k + 1) (k + 1) k)
      (by unfold Ob; rw [Ow_cap 0 c (k + 1) (show k < 6 by omega), add_right_comm])) $$ [G0 HO]
    · isplitr; · iexact HB
      isplitl [G0] <;> iassumption
    iintro ⟨HO, G0⟩
    iapply (give_step m K KS 1 c _ k (by omega) (hn1 _) h1 hx1 (O' := Ob c (k + 1) (k + 1) (k + 1) k) (O := Ob c (k + 1) (k + 1) (k + 1) (k + 1))
      (by unfold Ob; rw [Ow_cap 1 c (k + 1) (show k < 6 by omega), add_assoc])) $$ [G1 HO]
    · isplitr; · iexact HB
      isplitl [G1] <;> iassumption
    iintro ⟨HO, G1⟩
    iapply Hk
    isplitl [HO]; · iexact HO
    isplitl [G0] <;> iassumption

/-! ## The program's semaphores and memrefs -/

theorem sem_send0 (s : Fin 2) {off : Fin 1 → ℕ} (hoff : off = ![s.val]) {inb : ∀ a, off a + S1.size a ≤ S2.size a} :
    ((cc0_scratch2.slice (Rect.unit (s := S2) off S1.size inb)).squeeze S_ squeezes_S1_S_).sem = sendS 0 s := by subst hoff; revert s; decide
theorem sem_recv0 (s : Fin 2) {off : Fin 1 → ℕ} (hoff : off = ![s.val]) {inb : ∀ a, off a + S1.size a ≤ S2.size a} :
    ((cc0_scratch3.slice (Rect.unit (s := S2) off S1.size inb)).squeeze S_ squeezes_S1_S_).sem = recvS 0 s := by subst hoff; revert s; decide
theorem sem_send1 (s : Fin 2) {off : Fin 1 → ℕ} (hoff : off = ![s.val]) {inb : ∀ a, off a + S1.size a ≤ S2.size a} :
    ((cc0_scratch4.slice (Rect.unit (s := S2) off S1.size inb)).squeeze S_ squeezes_S1_S_).sem = sendS 1 s := by subst hoff; revert s; decide
theorem sem_recv1 (s : Fin 2) {off : Fin 1 → ℕ} (hoff : off = ![s.val]) {inb : ∀ a, off a + S1.size a ≤ S2.size a} :
    ((cc0_scratch5.slice (Rect.unit (s := S2) off S1.size inb)).squeeze S_ squeezes_S1_S_).sem = recvS 1 s := by subst hoff; revert s; decide
theorem sem_cap0 : cc0_scratch7.sem = capS 0 := by decide
theorem sem_cap1 : cc0_scratch8.sem = capS 1 := by decide
theorem sem_cp (d j : Fin 2) {off : Fin 2 → ℕ} (hoff : off = ![d.val, j.val]) {inb : ∀ a, off a + S1x1.size a ≤ S2x2.size a} :
    ((cc0_scratch6.slice (Rect.unit (s := S2x2) off S1x1.size inb)).squeeze S_ squeezes_S1x1_S_).sem = cpS d j := by subst hoff; revert d j; decide

theorem mem_slot (d s : Fin 2) {off : Fin 3 → ℕ} (hoff : off = ![s.val, 1536 * d.val, 0]) {inb : ∀ a, off a + S1x1536x1536.size a ≤ S2x3072x1536.size a}
    {hs : ∀ a, (Rect.unit (s := S2x3072x1536) off S1x1536x1536.size inb).stride a = 1} :
    (cM.slice (Rect.unit (s := S2x3072x1536) off S1x1536x1536.size inb) hs).squeeze S1536x1536 squeezes_S1x1536x1536_S1536x1536 = cV d s := by
  subst hoff; rfl
theorem credit_slot {off : Fin 3 → ℕ} {inb : ∀ a, off a + S1x1536x1536.size a ≤ S2x3072x1536.size a}
    {hs : ∀ a, (Rect.unit (s := S2x3072x1536) off S1x1536x1536.size inb).stride a = 1} :
    ((cM.slice (Rect.unit (s := S2x3072x1536) off S1x1536x1536.size inb) hs).squeeze S1536x1536 squeezes_S1x1536x1536_S1536x1536).view.dmaCredit = N := by
  unfold N; rfl
theorem credit_out {off : Fin 2 → ℕ} {inb : ∀ a, off a + S1536x1536.size a ≤ S24576x3072.size a}
    {hs : ∀ a, (Rect.unit (s := S24576x3072) off S1536x1536.size inb).stride a = 1} :
    (oM.slice (Rect.unit (s := S24576x3072) off S1536x1536.size inb) hs).view.dmaCredit = N := by
  unfold N; rfl

end Cert.Ring
-- ==== Proof.Trip.lean ====
/-
One hop of both rings, from the state before it to the state after it.
-/
module

public import proofs.«01_k».proof.Proof.Hops

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]
local notation "𝕄" => MM F

variable (m : (ℓ : Loc nD τ sig) → Buf (Elt F) ℓ) (ρ : Dev nD → PrngReg)
variable (K : Dev nD × Kd → ℕ) (KS : Key → ℕ)

/-- What a device holds before hop `k`. -/
def Inv (c : Dev nD) (k : ℕ) : sProp 𝕄 :=
  iprop(Bun m K KS ∗ Dir m 0 c k ∗ Dir m 1 c k ∗ Tl m 0 0 c k ∗ Tl m 1 0 c k ∗ Tl m 0 1 c k ∗ Tl m 1 1 c k ∗ BO m c ∗ OW c (Ob c k k k k))

theorem Inv_eq (c : Dev nD) (k : ℕ) : Inv m K KS c k =
    iprop(Bun m K KS ∗ Dir m 0 c k ∗ Dir m 1 c k ∗ Tl m 0 0 c k ∗ Tl m 1 0 c k ∗ Tl m 0 1 c k ∗ Tl m 1 1 c k ∗ BO m c ∗ OW c (Ob c k k k k)) := rfl
theorem Dir_eq (d : Fin 2) (c : Dev nD) (k : ℕ) : Dir m d c k =
    iprop(owns (c : Thread nD τ) (cV d (par k)) fullShare (half m d (orig d c k)) ∗ Pos d c k ∗ Fut d c k ∗ CapSt d c k ∗ CapF d c k
      ∗ Dut d c k ∗ Rels d c (min k 6 + 1) ∗ RdrK d c k ∗ Rel d (dst d c) 0) := rfl
theorem Pos_eq (d : Fin 2) (c : Dev nD) (k : ℕ) : Pos (F := F) d c k =
    iprop((atPos ER (cell c (.send d (par k))) (k / 2) ∅ 0 ∗ reached ER (cell c (.send d (par k))) (k / 2))
      ∗ (atPos ER (cell c (.send d (par (k + 1)))) ((k + 1) / 2) ∅ 0 ∗ reached ER (cell c (.send d (par (k + 1)))) ((k + 1) / 2))
      ∗ (atPos ER (cell c (.recv d (par (k + 1)))) (k / 2) ∅ 0)
      ∗ (atPos ER (cell c (.recv d (par k))) ((k + 1) / 2) ∅ 0 ∗ reached ER (cell c (.recv d (par k))) ((k + 1) / 2))) := rfl

/-- The next hop's tokens and receive credit. -/
theorem Fut_take (d : Fin 2) (c : Dev nD) {k : ℕ} (h : k < 7) :
    Fut (F := F) d c k ⊢ iprop((Tok d c k ∗ cred (tallyAt (cell c (.recv d (par (k + 1)))) k N)) ∗ Fut d c (k + 1)) := by
  unfold Fut
  exact Ico_take (fun h => iprop(Tok (F := F) d c h ∗ cred (tallyAt (cell c (.recv d (par (h + 1)))) h N))) h

/-- The state before the next hop, from what the steps of a hop leave. -/
theorem Dir_close (d : Fin 2) (c : Dev nD) (k : ℕ) :
    iprop(owns (c : Thread nD τ) (cV d (par (k + 1))) fullShare (half m d (orig d c (k + 1)))
      ∗ (atPos ER (cell c (.send d (par k))) (k / 2 + 1) ∅ 0 ∗ reached ER (cell c (.send d (par k))) (k / 2 + 1))
      ∗ (atPos ER (cell c (.send d (par (k + 1)))) ((k + 1) / 2) ∅ 0 ∗ reached ER (cell c (.send d (par (k + 1)))) ((k + 1) / 2))
      ∗ atPos ER (cell c (.recv d (par k))) ((k + 1) / 2) ∅ 0
      ∗ (atPos ER (cell c (.recv d (par (k + 1)))) (k / 2 + 1) ∅ 0 ∗ reached ER (cell c (.recv d (par (k + 1)))) (k / 2 + 1))
      ∗ Fut d c (k + 1) ∗ CapSt d c (k + 1) ∗ CapF d c (k + 1) ∗ Gave d c k ∗ Rel d (dst d c) 0) ⊢ Dir m d c (k + 1) := by
  rw [Dir_eq, Pos_eq, show k + 1 + 1 = k + 2 from rfl, par_add_two, show (k + 2) / 2 = k / 2 + 1 by omega]
  unfold Gave
  iintro ⟨Hc, Hs, Hs', Hv', Hv, Hf, Hst, Hcf, ⟨Hrd, Hdu, HR⟩, Hrel⟩
  isplitl [Hc]; · iexact Hc
  isplitl [Hs Hs' Hv Hv']
  · isplitl [Hs']; · iexact Hs'
    isplitl [Hs]; · iexact Hs
    isplitl [Hv']; · iexact Hv'
    iexact Hv
  isplitl [Hf]; · iexact Hf
  isplitl [Hst]; · iexact Hst
  isplitl [Hcf]; · iexact Hcf
  isplitl [Hdu]; · iexact Hdu
  isplitl [HR]; · iexact HR
  isplitl [Hrd]; · iexact Hrd
  iexact Hrel

theorem Give_eq (d : Fin 2) (c : Dev nD) (k : ℕ) : Give m d c k =
    iprop(owns (c : Thread nD τ) (cV d (par k)) fullShare (half m d (orig d c k)) ∗ RdrK d c k ∗ reached ER (cell c (.recv d (par k))) ((k + 1) / 2)
      ∗ Dut d c k ∗ Rels d c (min k 6 + 1)) := rfl

/-- A program that only returns. -/
theorem WP_ret {α : Type} (c : Dev nD) (a : α) (Q : α → sProp 𝕄) : Q a ⊢ WP c (.ret a) Q := by
  unfold WP
  rw [wp_ret]
  iintro H
  imodintro
  iexact H

theorem trips_eq : k0_t1_loop.trips = 7 := by decide
theorem cond1_iff (k : Fin k0_t1_loop.trips) :
    Scalar.cmpi .ne (Scalar.extui (Scalar.cmpi .sge (Scf.iv 0#32 1#32 k.val) 1#32) : BitVec 32) 0#32 = 1#1 ↔ 1 ≤ k.val := by revert k; decide
theorem cond2_iff (k : Fin k0_t1_loop.trips) : k0_cond2 k = 1#1 ↔ 1 ≤ k.val := by revert k; decide
theorem cond3_iff (k : Fin k0_t1_loop.trips) : k0_cond3 k = 1#1 ↔ 1 ≤ k.val := by revert k; decide
theorem cond4_iff (k : Fin k0_t1_loop.trips) : k0_cond4 k = 1#1 ↔ 1 ≤ k.val := by revert k; decide
theorem cond5_iff (k : Fin k0_t1_loop.trips) : k0_cond5 k = 1#1 ↔ 1 ≤ k.val := by revert k; decide
theorem cond6_iff (k : Fin k0_t1_loop.trips) : k0_cond6 k = 1#1 ↔ k.val < 6 := by revert k; decide

theorem bind_dite.{v} {E : Type → Type v} {α β : Type} (cnd : Prop) [Decidable cnd] (A : cnd → Prog E α) (B : ¬ cnd → Prog E α) (f : α → Prog E β) :
    ((if h : cnd then A h else B h) >>= f) = if h : cnd then A h >>= f else B h >>= f := by
  split <;> rfl

set_option maxHeartbeats 4000000 in
/-- One hop. -/
theorem trip (c : Dev nD) (k : Fin k0_t1_loop.trips) (x y z : BitVec 32) :
    Inv m K KS c k.val ⊢ WP c (k0_t1_body (F := F) aM (Memref.isWhole_whole _) bM (Memref.isWhole_whole _) oM (Memref.isWhole_whole _)
      cM (Memref.isWhole_whole _) tM (Memref.isWhole_whole _) cc0_scratch2 cc0_scratch3 cc0_scratch4 cc0_scratch5 cc0_scratch6 cc0_scratch7 cc0_scratch8
      c x y z k ⟨⟩) (fun _ => Inv m K KS c (k.val + 1)) := by
  have hk : k.val < 7 := lt_of_lt_of_eq k.isLt trips_eq
  unfold k0_t1_body
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, bind_dite, Prog.bind_op, Prog.bind_ret, Prog.pure_eq_ret]
  have hL : Low (Ob c k.val k.val k.val k.val) (k.val + 1) := Low_Ob c le_rfl le_rfl le_rfl le_rfl
  rw [Inv_eq m K KS c k.val, Dir_eq m 0 c k.val, Dir_eq m 1 c k.val, Pos_eq 0 c k.val, Pos_eq 1 c k.val]
  iintro ⟨#HB, ⟨Hc0, ⟨⟨Hs0, #Hsr0⟩, Hs0', Hv0, ⟨Hv0', #Hvr0⟩⟩, Hf0, Hst0, Hcf0, Hdu0, HR0, Hrd0, #Hrel0⟩,
    ⟨Hc1, ⟨⟨Hs1, #Hsr1⟩, Hs1', Hv1, ⟨Hv1', #Hvr1⟩⟩, Hf1, Hst1, Hcf1, Hdu1, HR1, Hrd1, #Hrel1⟩, T00, T10, T01, T11, Hb, HO⟩
  iapply (capIf_step m K KS c k.val (by omega) (cond1_iff k) sem_cap0 sem_cap1 (by decide) (by decide) hL) $$ [Hst0 Hcf0 Hst1 Hcf1 HO]
  · isplitr; · iexact HB
    isplitl [Hst0 Hcf0]
    · isplitl [Hst0]; · iexact Hst0
      isplitl [Hcf0]; · iexact Hcf0
      iexact Hrel0
    isplitl [Hst1 Hcf1]
    · isplitl [Hst1]; · iexact Hst1
      isplitl [Hcf1]; · iexact Hcf1
      iexact Hrel1
    iexact HO
  iintro ⟨HO, ⟨Hst0, Hcf0, Hg0⟩, ⟨Hst1, Hcf1, Hg1⟩⟩
  ihave Hf0 := (Fut_take 0 c hk) $$ Hf0
  ihave Hf1 := (Fut_take 1 c hk) $$ Hf1
  icases Hf0 with ⟨⟨Htk0, Hcr0⟩, Hf0⟩
  icases Hf1 with ⟨⟨Htk1, Hcr1⟩, Hf1⟩
  iapply (send_step m K KS 0 c _ k.val hk (Fin.ext ((k0_dev3_eq c).trans rfl)) (mem_slot 0 (par k.val) ((k0_off4_eq k).trans rfl))
      (mem_slot 0 (par (k.val + 1)) ((k0_off3_eq k).trans rfl)) (sem_send0 (par k.val) ((k0_off1_eq k).trans rfl)) (sem_recv0 (par (k.val + 1)) ((k0_off2_eq k).trans rfl))
      (O' := Ob c k.val k.val k.val k.val) (O := Ob c (k.val + 1) k.val k.val k.val) (by unfold Ob; rw [Ow_send 0 c k.val hk, add_right_comm])) $$ [Hc0 Htk0 Hg0 HO]
  · isplitr; · iexact HB
    isplitl [Hc0]; · iexact Hc0
    isplitl [Htk0]; · iexact Htk0
    isplitr; · iexact Hsr0
    isplitl [Hg0] <;> iassumption
  iintro ⟨Hsc0, HO, Hc0⟩
  iapply (send_step m K KS 1 c _ k.val hk (Fin.ext ((k0_dev4_eq c).trans rfl)) (mem_slot 1 (par k.val) ((k0_off6_eq k).trans rfl))
      (mem_slot 1 (par (k.val + 1)) ((k0_off5_eq k).trans rfl)) (sem_send1 (par k.val) ((k0_off1_eq k).trans rfl)) (sem_recv1 (par (k.val + 1)) ((k0_off2_eq k).trans rfl))
      (O' := Ob c (k.val + 1) k.val k.val k.val) (O := Ob c (k.val + 1) k.val (k.val + 1) k.val) (by unfold Ob; rw [Ow_send 1 c k.val hk, add_assoc])) $$ [Hc1 Htk1 Hg1 HO]
  · isplitr; · iexact HB
    isplitl [Hc1]; · iexact Hc1
    isplitl [Htk1]; · iexact Htk1
    isplitr; · iexact Hsr1
    isplitl [Hg1] <;> iassumption
  iintro ⟨Hsc1, HO, Hc1⟩
  have hL0 : Low (Ob c (k.val + 1) k.val (k.val + 1) k.val) 0 :=
    Low_mono (Low_Ob c (n := k.val) (by omega) le_rfl (by omega) le_rfl) (by omega)
  iapply (tileWaitIf_step m K KS 0 0 c k.val (cond2_iff k) (sem_cp 0 0 rfl) (fun _ => credit_out) hL0) $$ [T00 HO]
  · isplitr; · iexact HB
    isplitl [T00] <;> iassumption
  iintro ⟨T00, HO⟩
  iapply (tile_step m 0 0 (par k.val) c k.val (by omega) fullShare.right ((k0_off8_eq k).trans rfl) rfl rfl ((k0_off9_eq c k).trans rfl) (fun _ _ => rfl) (sem_cp 0 0 rfl)) $$ [Hc0 Hb T00]
  · isplitl [Hc0]; · iexact Hc0
    isplitl [Hb] <;> iassumption
  iintro ⟨Hc0, Hb, T00⟩
  iapply (tileWaitIf_step m K KS 1 0 c k.val (cond3_iff k) (sem_cp 1 0 rfl) (fun _ => credit_out) hL0) $$ [T10 HO]
  · isplitr; · iexact HB
    isplitl [T10] <;> iassumption
  iintro ⟨T10, HO⟩
  iapply (tile_step m 1 0 (par k.val) c k.val (by omega) fullShare.right ((k0_off11_eq k).trans rfl) rfl rfl ((k0_off12_eq c k).trans rfl) (fun _ _ => rfl) (sem_cp 1 0 rfl)) $$ [Hc1 Hb T10]
  · isplitl [Hc1]; · iexact Hc1
    isplitl [Hb] <;> iassumption
  iintro ⟨Hc1, Hb, T10⟩
  iapply (tileWaitIf_step m K KS 0 1 c k.val (cond4_iff k) (sem_cp 0 1 rfl) (fun _ => credit_out) hL0) $$ [T01 HO]
  · isplitr; · iexact HB
    isplitl [T01] <;> iassumption
  iintro ⟨T01, HO⟩
  iapply (tile_step m 0 1 (par k.val) c k.val (by omega) fullShare.right ((k0_off8_eq k).trans rfl) rfl rfl ((k0_off14_eq c k).trans rfl) (fun _ _ => rfl) (sem_cp 0 1 rfl)) $$ [Hc0 Hb T01]
  · isplitl [Hc0]; · iexact Hc0
    isplitl [Hb] <;> iassumption
  iintro ⟨Hc0, Hb, T01⟩
  iapply (tileWaitIf_step m K KS 1 1 c k.val (cond5_iff k) (sem_cp 1 1 rfl) (fun _ => credit_out) hL0) $$ [T11 HO]
  · isplitr; · iexact HB
    isplitl [T11] <;> iassumption
  iintro ⟨T11, HO⟩
  iapply (tile_step m 1 1 (par k.val) c k.val (by omega) fullShare.right ((k0_off11_eq k).trans rfl) rfl rfl ((k0_off16_eq c k).trans rfl) (fun _ _ => rfl) (sem_cp 1 1 rfl)) $$ [Hc1 Hb T11]
  · isplitl [Hc1]; · iexact Hc1
    isplitl [Hb] <;> iassumption
  iintro ⟨Hc1, Hb, T11⟩
  iapply (sendWait_step m K KS 0 c k.val hk (sem_send0 (par k.val) ((k0_off1_eq k).trans rfl)) credit_slot hL0) $$ [Hsc0 HO Hs0 Hc0]
  · isplitr; · iexact HB
    isplitl [Hsc0]; · iexact Hsc0
    isplitl [HO]; · iexact HO
    isplitl [Hs0] <;> iassumption
  iintro ⟨HO, Hs0, Hsn0, Hc0⟩
  iapply (sendWait_step m K KS 1 c k.val hk (sem_send1 (par k.val) ((k0_off1_eq k).trans rfl)) credit_slot hL0) $$ [Hsc1 HO Hs1 Hc1]
  · isplitr; · iexact HB
    isplitl [Hsc1]; · iexact Hsc1
    isplitl [HO]; · iexact HO
    isplitl [Hs1] <;> iassumption
  iintro ⟨HO, Hs1, Hsn1, Hc1⟩
  iapply (giveIf_step m K KS c k.val (by omega) (cond6_iff k) (fun _ => Fin.ext ((k0_dev5_eq c).trans rfl)) (fun _ => Fin.ext ((k0_dev6_eq c).trans rfl))
      sem_cap0 sem_cap1 (by decide) (by decide)) $$ [Hc0 Hrd0 Hdu0 HR0 Hc1 Hrd1 Hdu1 HR1 HO]
  · isplitr; · iexact HB
    isplitl [Hc0 Hrd0 Hdu0 HR0]
    · iapply (Entails.of_eq (Give_eq m 0 c k.val).symm)
      isplitl [Hc0]; · iexact Hc0
      isplitl [Hrd0]; · iexact Hrd0
      isplitr; · iexact Hvr0
      isplitl [Hdu0] <;> iassumption
    isplitl [Hc1 Hrd1 Hdu1 HR1]
    · iapply (Entails.of_eq (Give_eq m 1 c k.val).symm)
      isplitl [Hc1]; · iexact Hc1
      isplitl [Hrd1]; · iexact Hrd1
      isplitr; · iexact Hvr1
      isplitl [Hdu1] <;> iassumption
    iexact HO
  iintro ⟨HO, Hga0, Hga1⟩
  have hL2 : Low (Ob c (k.val + 1) (k.val + 1) (k.val + 1) (k.val + 1)) (k.val + 2) := Low_Ob c le_rfl le_rfl le_rfl le_rfl
  iapply (recvWait_step m K KS 0 c k.val hk (sem_recv0 (par (k.val + 1)) ((k0_off2_eq k).trans rfl)) credit_slot hL2) $$ [Hcr0 HO Hv0]
  · isplitr; · iexact HB
    isplitl [Hcr0]; · iexact Hcr0
    isplitl [HO] <;> iassumption
  iintro ⟨HO, Hv0, Hvn0, Hc0⟩
  iapply (recvWait_step m K KS 1 c k.val hk (sem_recv1 (par (k.val + 1)) ((k0_off2_eq k).trans rfl)) credit_slot hL2) $$ [Hcr1 HO Hv1]
  · isplitr; · iexact HB
    isplitl [Hcr1]; · iexact Hcr1
    isplitl [HO] <;> iassumption
  iintro ⟨HO, Hv1, Hvn1, Hc1⟩
  iapply (WP_ret c PUnit.unit (fun _ => Inv m K KS c (k.val + 1)))
  unfold Inv
  isplitr; · iexact HB
  isplitl [Hc0 Hs0 Hsn0 Hs0' Hv0 Hvn0 Hv0' Hf0 Hst0 Hcf0 Hga0]
  · iapply (Dir_close m 0 c k.val)
    isplitl [Hc0]; · iexact Hc0
    isplitl [Hs0 Hsn0]
    · isplitl [Hs0] <;> iassumption
    isplitl [Hs0']; · iexact Hs0'
    isplitl [Hv0']; · iexact Hv0'
    isplitl [Hv0 Hvn0]
    · isplitl [Hv0] <;> iassumption
    isplitl [Hf0]; · iexact Hf0
    isplitl [Hst0]; · iexact Hst0
    isplitl [Hcf0]; · iexact Hcf0
    isplitl [Hga0]; · iexact Hga0
    iexact Hrel0
  isplitl [Hc1 Hs1 Hsn1 Hs1' Hv1 Hvn1 Hv1' Hf1 Hst1 Hcf1 Hga1]
  · iapply (Dir_close m 1 c k.val)
    isplitl [Hc1]; · iexact Hc1
    isplitl [Hs1 Hsn1]
    · isplitl [Hs1] <;> iassumption
    isplitl [Hs1']; · iexact Hs1'
    isplitl [Hv1']; · iexact Hv1'
    isplitl [Hv1 Hvn1]
    · isplitl [Hv1] <;> iassumption
    isplitl [Hf1]; · iexact Hf1
    isplitl [Hst1]; · iexact Hst1
    isplitl [Hcf1]; · iexact Hcf1
    isplitl [Hga1]; · iexact Hga1
    iexact Hrel1
  isplitl [T00]; · iexact T00
  isplitl [T10]; · iexact T10
  isplitl [T01]; · iexact T01
  isplitl [T11]; · iexact T11
  isplitl [Hb] <;> iassumption

end Cert.Ring
-- ==== Proof.Pieces.lean ====
/-
The buffers cut into the pieces the protocol moves, and put together again.
-/
module

public import proofs.«01_k».proof.Proof.Trip

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]
local notation "𝕄" => MM F

variable (m : (ℓ : Loc nD τ sig) → Buf (Elt F) ℓ) (ρ : Dev nD → PrngReg)
variable (K : Dev nD × Kd → ℕ) (KS : Key → ℕ)

/-! ## Families of pieces -/

/-- A buffer cut into disjoint pieces that cover it. -/
theorem cut_pieces {ℓ : Loc nD τ sig} {T : Type} [Fintype T] [DecidableEq T] (k : T → Finset (Idx ℓ))
    (hd : ∀ t t', t ≠ t' → Disjoint (k t) (k t')) (hc : ∀ i, ∃ t, i ∈ k t) (f : Buf (Elt F) ℓ) :
    (ℓ ↦{fullShare} f : sProp 𝕄) = bigSep Finset.univ fun t => ℓ ↦[k t]{fullShare} f := by
  have hu : (Finset.univ : Finset T).biUnion k = Finset.univ := by
    refine Finset.eq_univ_iff_forall.mpr fun i => ?_
    obtain ⟨t, ht⟩ := hc i
    exact Finset.mem_biUnion.mpr ⟨t, Finset.mem_univ t, ht⟩
  rw [← pointsTo_biUnion Finset.univ k (fun t _ t' _ h => hd t t' h), hu]

/-- The pieces put together again: one contents that agrees with each piece's own on it. -/
theorem join_pieces {ℓ : Loc nD τ sig} {T : Type} [Fintype T] [DecidableEq T] (k : T → Finset (Idx ℓ))
    (hd : ∀ t t', t ≠ t' → Disjoint (k t) (k t')) (hc : ∀ i, ∃ t, i ∈ k t) (f : T → Buf (Elt F) ℓ) (f₀ : Buf (Elt F) ℓ) :
    (bigSep Finset.univ fun t => ℓ ↦[k t]{fullShare} f t)
      ⊢ (iprop(∃ g, ⌜∀ t, ∀ i ∈ k t, g i = f t i⌝ ∗ (ℓ ↦{fullShare} g)) : sProp 𝕄) := by
  have hu : (Finset.univ : Finset T).biUnion k = Finset.univ := by
    refine Finset.eq_univ_iff_forall.mpr fun i => ?_
    obtain ⟨t, ht⟩ := hc i
    exact Finset.mem_biUnion.mpr ⟨t, Finset.mem_univ t, ht⟩
  refine (pointsTo_biUnion_join Finset.univ k f f₀ (fun t _ t' _ h => hd t t' h)).trans ?_
  rw [hu]
  iintro ⟨%g, %hg, H⟩
  iexists g
  isplitr; · ipureintro; exact fun t i hi => hg t (Finset.mem_univ t) i hi
  iexact H

/-- Over the two directions and two more. -/
theorem bigSep_two_two (Φ : Fin 2 × Fin 2 → sProp 𝕄) :
    bigSep Finset.univ Φ = iprop((Φ (0, 0) ∗ Φ (0, 1)) ∗ Φ (1, 0) ∗ Φ (1, 1)) := by
  rw [bigSep_univ_prod, bigSep_fin_two, bigSep_fin_two, bigSep_fin_two]; rfl

/-! ## The slots -/

theorem seed_inb : ∀ a, (![0, 0, 0] : Fin 3 → ℕ) a + S1x3072x1536.size a ≤ S2x3072x1536.size a := by decide
/-- The first slots of both directions together. -/
abbrev seedM : Memref sig .tc .vmem S3072x1536 .bf16 :=
  (cM.slice (Rect.unit (s := S2x3072x1536) ![0, 0, 0] S1x3072x1536.size seed_inb) (fun _ => rfl)).squeeze
    S3072x1536 squeezes_S1x3072x1536_S3072x1536

theorem mem_cV (d s : Fin 2) (i : S2x3072x1536.Idx) :
    i ∈ (cV d s).view.set ↔ (i 0).val = s.val ∧ 1536 * d.val ≤ (i 1).val ∧ (i 1).val < 1536 * d.val + 1536 := by
  show i ∈ (((View.whole cc0_scratch0).slice (Rect.unit (s := S2x3072x1536) ![s.val, 1536 * d.val, 0] S1x1536x1536.size (cOff_inb d s))).reshape S1536x1536
    squeezes_S1x1536x1536_S1536x1536.numel_eq).set ↔ _
  rw [View.set_reshape, View.set_slice_whole, Rect.mem_set_unit]
  have h2 : (i 2).val < 1536 := (i 2).isLt
  constructor
  · intro h
    have h0 := h 0
    have h1 := h 1
    change s.val ≤ (i 0).val ∧ (i 0).val < s.val + 1 at h0
    change 1536 * d.val ≤ (i 1).val ∧ (i 1).val < 1536 * d.val + 1536 at h1
    exact ⟨by omega, h1.1, h1.2⟩
  · rintro ⟨h0, h1, h1'⟩ a
    fin_cases a
    · show s.val ≤ (i 0).val ∧ (i 0).val < s.val + 1; omega
    · exact ⟨h1, h1'⟩
    · show 0 ≤ (i 2).val ∧ (i 2).val < 0 + 1536; omega

theorem mem_seed (i : S2x3072x1536.Idx) : i ∈ seedM.view.set ↔ (i 0).val = 0 := by
  show i ∈ (((View.whole cc0_scratch0).slice (Rect.unit (s := S2x3072x1536) ![0, 0, 0] S1x3072x1536.size seed_inb)).reshape S3072x1536
    squeezes_S1x3072x1536_S3072x1536.numel_eq).set ↔ _
  rw [View.set_reshape, View.set_slice_whole, Rect.mem_set_unit]
  have h1 : (i 1).val < 3072 := (i 1).isLt
  have h2 : (i 2).val < 1536 := (i 2).isLt
  constructor
  · intro h
    have h0 := h 0
    change 0 ≤ (i 0).val ∧ (i 0).val < 0 + 1 at h0
    omega
  · intro h0 a
    fin_cases a
    · show 0 ≤ (i 0).val ∧ (i 0).val < 0 + 1; omega
    · show 0 ≤ (i 1).val ∧ (i 1).val < 0 + 3072; omega
    · show 0 ≤ (i 2).val ∧ (i 2).val < 0 + 1536; omega

theorem cV_disj (t t' : Fin 2 × Fin 2) (h : t ≠ t') :
    Disjoint ((cV t.1 t.2).view.set : Finset S2x3072x1536.Idx) (cV t'.1 t'.2).view.set := by
  rw [Finset.disjoint_left]
  intro i hi hi'
  have h1 := (mem_cV t.1 t.2 i).mp hi
  have h2 := (mem_cV t'.1 t'.2 i).mp hi'
  exact h (Prod.ext (Fin.ext (by omega)) (Fin.ext (by omega)))

theorem cV_cover (i : S2x3072x1536.Idx) : ∃ t : Fin 2 × Fin 2, i ∈ (cV t.1 t.2).view.set := by
  have h0 : (i 0).val < 2 := (i 0).isLt
  have h1 : (i 1).val < 3072 := (i 1).isLt
  refine ⟨(⟨(i 1).val / 1536, by omega⟩, ⟨(i 0).val, h0⟩), (mem_cV _ _ i).mpr ⟨rfl, ?_, ?_⟩⟩
  · show 1536 * ((i 1).val / 1536) ≤ _; omega
  · show _ < 1536 * ((i 1).val / 1536) + 1536; omega

theorem seed_set : (seedM.view.set : Finset S2x3072x1536.Idx) = (cV 0 0).view.set ∪ (cV 1 0).view.set := by
  ext i
  have h1 : (i 1).val < 3072 := (i 1).isLt
  rw [Finset.mem_union, mem_seed i, mem_cV 0 0 i, mem_cV 1 0 i]
  show _ ↔ ((i 0).val = 0 ∧ 1536 * 0 ≤ _ ∧ _ < 1536 * 0 + 1536) ∨ ((i 0).val = 0 ∧ 1536 * 1 ≤ _ ∧ _ < 1536 * 1 + 1536)
  omega

/-- The scratch buffer cut into its first slots together and its two second slots. -/
theorem comm_split (c : Dev nD) (f : Buf (Elt F) ((c : Thread nD τ).loc cc0_scratch0)) :
    ((c : Thread nD τ).loc cc0_scratch0 ↦{fullShare} f)
      ⊢ (iprop((seedM.view.loc (c : Thread nD τ) ↦[seedM.view.set]{fullShare} f) ∗ SL (c, 0, 1) ∗ SL (c, 1, 1)) : sProp 𝕄) := by
  have hj := pointsTo_union (Ix := ℕ) (Name := ℕ) (U := UU) (Lvl := ℕ) (Val := Elt F) (ℓ := (c : Thread nD τ).loc cc0_scratch0) (q := fullShare) (f := f) (cV_disj (0, 0) (1, 0) (by decide))
  rw [cut_pieces (ℓ := (c : Thread nD τ).loc cc0_scratch0) (fun t : Fin 2 × Fin 2 => ((cV t.1 t.2).view.set : Finset S2x3072x1536.Idx)) cV_disj cV_cover f, bigSep_two_two]
  iintro ⟨⟨H00, H01⟩, H10, H11⟩
  isplitl [H00 H10]
  · have hs : (seedM.view.loc (c : Thread nD τ) ↦[seedM.view.set]{fullShare} f : sProp 𝕄)
        = ((c : Thread nD τ).loc cc0_scratch0 ↦[(cV 0 0).view.set ∪ (cV 1 0).view.set]{fullShare} f) := by
      rw [← seed_set]
    rw [hs]
    iapply hj.2
    isplitl [H00] <;> iassumption
  unfold SL
  isplitl [H01]
  · iexists _
    iapply (owns_intro (c : Thread nD τ) (cV 0 1) fullShare f) $$ H01
  · iexists _
    iapply (owns_intro (c : Thread nD τ) (cV 1 1) fullShare f) $$ H11

/-- A slot of hop 0 is a half of the first slots together. -/
theorem seed_emb (d : Fin 2) (i : S1536x1536.Idx) :
    ((cV d 0).view.emb i : S2x3072x1536.Idx) = seedM.view.emb ((Rect.unit (s := S3072x1536) ![1536 * d.val, 0] S1536x1536.size (aOff_inb d)).emb i) := by
  show (Rect.unit (s := S2x3072x1536) ![(0 : Fin 2).val, 1536 * d.val, 0] S1x1536x1536.size (cOff_inb d 0)).emb
      (Shape.reshapeEquiv squeezes_S1x1536x1536_S1536x1536.numel_eq i)
    = (Rect.unit (s := S2x3072x1536) ![0, 0, 0] S1x3072x1536.size seed_inb).emb
      (Shape.reshapeEquiv squeezes_S1x3072x1536_S3072x1536.numel_eq ((Rect.unit (s := S3072x1536) ![1536 * d.val, 0] S1536x1536.size (aOff_inb d)).emb i))
  have e1 := Shape.reshapeEquiv_cons_one (n := 2) (d := ![1536, 1536]) squeezes_S1x1536x1536_S1536x1536.numel_eq i
  have e2 := Shape.reshapeEquiv_cons_one (n := 2) (d := ![3072, 1536]) squeezes_S1x3072x1536_S3072x1536.numel_eq
    ((Rect.unit (s := S3072x1536) ![1536 * d.val, 0] S1536x1536.size (aOff_inb d)).emb i)
  refine (congrArg _ e1).trans (Eq.trans ?_ (congrArg _ e2).symm)
  funext a
  apply Fin.ext
  rw [Rect.emb_apply, Rect.emb_apply]
  fin_cases a
  · rfl
  · show 1536 * d.val + 1 * (i 0).val = 0 + 1 * (1536 * d.val + 1 * (i 0).val); omega
  · show 0 + 1 * (i 1).val = 0 + 1 * (0 + 1 * (i 1).val); omega

theorem seed_read (d : Fin 2) (g : (cV d 0).view.ty.Contents (Elt F)) :
    (cV d 0).view.read (Elt F) g = fun i => seedM.view.read (Elt F) g ((Rect.unit (s := S3072x1536) ![1536 * d.val, 0] S1536x1536.size (aOff_inb d)).emb i) := by
  funext i
  show (g : S2x3072x1536.Idx → Elt F .bf16) ((cV d 0).view.emb i) = (g : S2x3072x1536.Idx → Elt F .bf16) _
  rw [seed_emb]

/-- The first slots written with the device's block of `A`, cut into the two directions' halves. -/
theorem seed_split (c : Dev nD) (f : seedM.view.ty.Contents (Elt F)) :
    (seedM.view.loc (c : Thread nD τ) ↦[seedM.view.set]{fullShare}
        seedM.view.write (Elt F) f (aM.view.read (Elt F) (m ((c : Thread nD τ).loc main_arg0))) Finset.univ)
      ⊢ (iprop(owns (c : Thread nD τ) (cV 0 (par 0)) fullShare (half m 0 (orig 0 c 0)) ∗ owns (c : Thread nD τ) (cV 1 (par 0)) fullShare (half m 1 (orig 1 c 0))) : sProp 𝕄) := by
  rw [orig_zero, orig_zero]
  have hj := pointsTo_union (Ix := ℕ) (Name := ℕ) (U := UU) (Lvl := ℕ) (Val := Elt F) (ℓ := (c : Thread nD τ).loc cc0_scratch0) (q := fullShare)
    (f := seedM.view.write (Elt F) f (aM.view.read (Elt F) (m ((c : Thread nD τ).loc main_arg0))) Finset.univ) (cV_disj (0, 0) (1, 0) (by decide))
  have hr : ∀ d : Fin 2, (cV d 0).view.read (Elt F) (seedM.view.write (Elt F) f (aM.view.read (Elt F) (m ((c : Thread nD τ).loc main_arg0))) Finset.univ) = half m d c := fun d => by
    rw [seed_read]
    funext i
    have := congrFun (View.read_write_univ (v := seedM.view) f (aM.view.read (Elt F) (m ((c : Thread nD τ).loc main_arg0))))
      ((Rect.unit (s := S3072x1536) ![1536 * d.val, 0] S1536x1536.size (aOff_inb d)).emb i)
    exact this
  have hs : (seedM.view.loc (c : Thread nD τ) ↦[seedM.view.set]{fullShare}
        seedM.view.write (Elt F) f (aM.view.read (Elt F) (m ((c : Thread nD τ).loc main_arg0))) Finset.univ : sProp 𝕄)
      = ((c : Thread nD τ).loc cc0_scratch0 ↦[(cV 0 0).view.set ∪ (cV 1 0).view.set]{fullShare}
        seedM.view.write (Elt F) f (aM.view.read (Elt F) (m ((c : Thread nD τ).loc main_arg0))) Finset.univ) := by
    rw [← seed_set]
  rw [hs]
  refine hj.1.trans ?_
  have h0 := owns_intro (Ix := ℕ) (Name := ℕ) (U := UU) (Lvl := ℕ) (Val := Elt F) (c : Thread nD τ) (cV 0 0) fullShare
    (seedM.view.write (Elt F) f (aM.view.read (Elt F) (m ((c : Thread nD τ).loc main_arg0))) Finset.univ)
  have h1 := owns_intro (Ix := ℕ) (Name := ℕ) (U := UU) (Lvl := ℕ) (Val := Elt F) (c : Thread nD τ) (cV 1 0) fullShare
    (seedM.view.write (Elt F) f (aM.view.read (Elt F) (m ((c : Thread nD τ).loc main_arg0))) Finset.univ)
  rw [hr] at h0 h1
  iintro ⟨H0, H1⟩
  isplitl [H0]
  · iapply h0 $$ H0
  · iapply h1 $$ H1

/-- The four slots put together again. -/
theorem comm_join (c : Dev nD) :
    iprop(SL (c, 0, 0) ∗ SL (c, 0, 1) ∗ SL (c, 1, 0) ∗ SL (c, 1, 1)) ⊢ (iprop(∃ f, (c : Thread nD τ).loc cc0_scratch0 ↦{fullShare} f) : sProp 𝕄) := by
  unfold SL owns
  iintro ⟨⟨%X0, %f00, -, H00⟩, ⟨%X1, %f01, -, H01⟩, ⟨%X2, %f10, -, H10⟩, ⟨%X3, %f11, -, H11⟩⟩
  have hj := join_pieces (F := F) (ℓ := (c : Thread nD τ).loc cc0_scratch0) (fun t : Fin 2 × Fin 2 => ((cV t.1 t.2).view.set : Finset S2x3072x1536.Idx)) cV_disj cV_cover
    (fun t => if t.1 = 0 then (if t.2 = 0 then f00 else f01) else (if t.2 = 0 then f10 else f11)) f00
  rw [bigSep_two_two] at hj
  ihave H := hj $$ [H00 H01 H10 H11]
  · isplitl [H00 H01]
    · isplitl [H00]; · iexact H00
      iexact H01
    · isplitl [H10]; · iexact H10
      iexact H11
  icases H with ⟨%g, -, H⟩
  iexists g
  iexact H

/-! ## The staging tiles -/

theorem mem_tV (d j : Fin 2) (i : S3072x3072.Idx) :
    i ∈ (tV d j).view.set ↔ (1536 * d.val ≤ (i 0).val ∧ (i 0).val < 1536 * d.val + 1536) ∧ 1536 * j.val ≤ (i 1).val ∧ (i 1).val < 1536 * j.val + 1536 := by
  show i ∈ ((View.whole cc0_scratch1).slice (Rect.unit (s := S3072x3072) ![1536 * d.val, 1536 * j.val] S1536x1536.size (tOff_inb d j))).set ↔ _
  rw [View.set_slice_whole, Rect.mem_set_unit]
  constructor
  · intro h
    exact ⟨h 0, h 1⟩
  · rintro ⟨h0, h1⟩ a
    fin_cases a
    · exact h0
    · exact h1

theorem tV_disj (t t' : Fin 2 × Fin 2) (h : t ≠ t') :
    Disjoint ((tV t.1 t.2).view.set : Finset S3072x3072.Idx) (tV t'.1 t'.2).view.set := by
  rw [Finset.disjoint_left]
  intro i hi hi'
  have h1 := (mem_tV t.1 t.2 i).mp hi
  have h2 := (mem_tV t'.1 t'.2 i).mp hi'
  exact h (Prod.ext (Fin.ext (by omega)) (Fin.ext (by omega)))

theorem tV_cover (i : S3072x3072.Idx) : ∃ t : Fin 2 × Fin 2, i ∈ (tV t.1 t.2).view.set := by
  have h0 : (i 0).val < 3072 := (i 0).isLt
  have h1 : (i 1).val < 3072 := (i 1).isLt
  refine ⟨(⟨(i 0).val / 1536, by omega⟩, ⟨(i 1).val / 1536, by omega⟩), (mem_tV _ _ i).mpr ?_⟩
  show (1536 * ((i 0).val / 1536) ≤ _ ∧ _ < 1536 * ((i 0).val / 1536) + 1536) ∧ 1536 * ((i 1).val / 1536) ≤ _ ∧ _ < 1536 * ((i 1).val / 1536) + 1536
  omega

/-- The staging buffer cut into its four tiles. -/
theorem stage_split (c : Dev nD) (f : Buf (Elt F) ((c : Thread nD τ).loc cc0_scratch1)) :
    ((c : Thread nD τ).loc cc0_scratch1 ↦{fullShare} f) ⊢ (iprop((TF 0 0 c ∗ TF 0 1 c) ∗ TF 1 0 c ∗ TF 1 1 c) : sProp 𝕄) := by
  rw [cut_pieces (ℓ := (c : Thread nD τ).loc cc0_scratch1) (fun t : Fin 2 × Fin 2 => ((tV t.1 t.2).view.set : Finset S3072x3072.Idx)) tV_disj tV_cover f, bigSep_two_two]
  have h : ∀ d j : Fin 2, ((c : Thread nD τ).loc cc0_scratch1 ↦[((tV d j).view.set : Finset S3072x3072.Idx)]{fullShare} f) ⊢ (TF d j c : sProp 𝕄) := fun d j => by
    unfold TF
    iintro H
    iexists _
    iapply (owns_intro (c : Thread nD τ) (tV d j) fullShare f) $$ H
  exact BI.sep_mono (BI.sep_mono (h 0 0) (h 0 1)) (BI.sep_mono (h 1 0) (h 1 1))

/-- The four tiles put together again. -/
theorem stage_join (c : Dev nD) :
    iprop((TF 0 0 c ∗ TF 0 1 c) ∗ TF 1 0 c ∗ TF 1 1 c) ⊢ (iprop(∃ f, (c : Thread nD τ).loc cc0_scratch1 ↦{fullShare} f) : sProp 𝕄) := by
  unfold TF owns
  iintro ⟨⟨⟨%X0, %f00, -, H00⟩, ⟨%X1, %f01, -, H01⟩⟩, ⟨%X2, %f10, -, H10⟩, ⟨%X3, %f11, -, H11⟩⟩
  have hj := join_pieces (F := F) (ℓ := (c : Thread nD τ).loc cc0_scratch1) (fun t : Fin 2 × Fin 2 => ((tV t.1 t.2).view.set : Finset S3072x3072.Idx)) tV_disj tV_cover
    (fun t => if t.1 = 0 then (if t.2 = 0 then f00 else f01) else (if t.2 = 0 then f10 else f11)) f00
  rw [bigSep_two_two] at hj
  ihave H := hj $$ [H00 H01 H10 H11]
  · isplitl [H00 H01]
    · isplitl [H00]; · iexact H00
      iexact H01
    · isplitl [H10]; · iexact H10
      iexact H11
  icases H with ⟨%g, -, H⟩
  iexists g
  iexact H

/-! ## The result -/

theorem mem_oV (d j : Fin 2) (e : Dev nD) (i : S24576x3072.Idx) :
    i ∈ (oV d j e).view.set ↔ (3072 * e.val + 1536 * d.val ≤ (i 0).val ∧ (i 0).val < 3072 * e.val + 1536 * d.val + 1536)
      ∧ 1536 * j.val ≤ (i 1).val ∧ (i 1).val < 1536 * j.val + 1536 := by
  show i ∈ ((View.whole main_v1).slice (Rect.unit (s := S24576x3072) ![3072 * e.val + 1536 * d.val, 1536 * j.val] S1536x1536.size (oOff_inb d j e))).set ↔ _
  rw [View.set_slice_whole, Rect.mem_set_unit]
  constructor
  · intro h
    exact ⟨h 0, h 1⟩
  · rintro ⟨h0, h1⟩ a
    fin_cases a
    · exact h0
    · exact h1

theorem oV_disj (t t' : (Fin 2 × Fin 2) × Dev nD) (h : t ≠ t') :
    Disjoint ((oV t.1.1 t.1.2 t.2).view.set : Finset S24576x3072.Idx) (oV t'.1.1 t'.1.2 t'.2).view.set := by
  rw [Finset.disjoint_left]
  intro i hi hi'
  have h1 := (mem_oV t.1.1 t.1.2 t.2 i).mp hi
  have h2 := (mem_oV t'.1.1 t'.1.2 t'.2 i).mp hi'
  have d1 := t.1.1.isLt
  have d2 := t'.1.1.isLt
  exact h (Prod.ext (Prod.ext (Fin.ext (by omega)) (Fin.ext (by omega))) (Fin.ext (by omega)))

theorem oV_cover (i : S24576x3072.Idx) : ∃ t : (Fin 2 × Fin 2) × Dev nD, i ∈ (oV t.1.1 t.1.2 t.2).view.set := by
  have h0 : (i 0).val < 24576 := (i 0).isLt
  have h1 : (i 1).val < 3072 := (i 1).isLt
  refine ⟨((⟨(i 0).val % 3072 / 1536, by omega⟩, ⟨(i 1).val / 1536, by omega⟩), ⟨(i 0).val / 3072, by show _ < 8; omega⟩), (mem_oV _ _ _ i).mpr ?_⟩
  show (3072 * ((i 0).val / 3072) + 1536 * ((i 0).val % 3072 / 1536) ≤ _ ∧ _ < 3072 * ((i 0).val / 3072) + 1536 * ((i 0).val % 3072 / 1536) + 1536)
    ∧ 1536 * ((i 1).val / 1536) ≤ _ ∧ _ < 1536 * ((i 1).val / 1536) + 1536
  omega

/-- Step by step a device works through every device's block once. -/
theorem steps_eq (d : Fin 2) (c : Dev nD) (Φ : Dev nD → sProp 𝕄) :
    bigSep (Finset.range 8) (fun h => Φ (orig d c h)) = bigSep Finset.univ Φ := by
  rw [bigSep_univ_eq_bigSepL [orig d c 0, orig d c 1, orig d c 2, orig d c 3, orig d c 4, orig d c 5, orig d c 6, orig d c 7] (by revert d c; decide) (by revert d c; decide),
    bigSep_eq_bigSepL_of_eq [0, 1, 2, 3, 4, 5, 6, 7] (by decide) (by decide)]
  rfl

/-- The result buffer cut into its tiles. -/
theorem out_split (c : Dev nD) (f : Buf (Elt F) ((c : Thread nD τ).loc main_v1)) :
    ((c : Thread nD τ).loc main_v1 ↦{fullShare} f)
      ⊢ (iprop((bigSep (Finset.Ico 0 8) (OA 0 0 c) ∗ bigSep (Finset.Ico 0 8) (OA 0 1 c))
          ∗ bigSep (Finset.Ico 0 8) (OA 1 0 c) ∗ bigSep (Finset.Ico 0 8) (OA 1 1 c)) : sProp 𝕄) := by
  rw [cut_pieces (ℓ := (c : Thread nD τ).loc main_v1) (fun t : (Fin 2 × Fin 2) × Dev nD => ((oV t.1.1 t.1.2 t.2).view.set : Finset S24576x3072.Idx)) oV_disj oV_cover f, bigSep_univ_prod, bigSep_two_two]
  have h : ∀ d j : Fin 2, (bigSep Finset.univ fun e : Dev nD => ((c : Thread nD τ).loc main_v1 ↦[((oV d j e).view.set : Finset S24576x3072.Idx)]{fullShare} f))
      ⊢ (bigSep (Finset.Ico 0 8) (OA d j c) : sProp 𝕄) := fun d j => by
    rw [← steps_eq d c, ← Finset.range_eq_Ico]
    have h' : ∀ k : ℕ, ((c : Thread nD τ).loc main_v1 ↦[((oV d j (orig d c k)).view.set : Finset S24576x3072.Idx)]{fullShare} f) ⊢ (OA d j c k : sProp 𝕄) := fun k => by
      unfold OA
      iintro H
      iexists _
      iapply (owns_intro (c : Thread nD τ) (oV d j (orig d c k)) fullShare f) $$ H
    exact bigSep_mono fun k _ => h' k
  exact BI.sep_mono (BI.sep_mono (h 0 0) (h 0 1)) (BI.sep_mono (h 1 0) (h 1 1))

/-- What the whole result holds: in each device's rows, each half's product with each column tile of `B`. -/
def Result (c : Dev nD) (g : (main_v1 : Ref sig .tc).ty.Contents (Elt F)) : Prop :=
  ∀ (d j : Fin 2) (e : Dev nD), (oV d j e).view.read (Elt F) g = mm (half m d e) (bcol m j c)

/-- The tiles put together again. -/
theorem out_join (c : Dev nD) :
    iprop((bigSep (Finset.range 8) (OD m 0 0 c) ∗ bigSep (Finset.range 8) (OD m 0 1 c))
        ∗ bigSep (Finset.range 8) (OD m 1 0 c) ∗ bigSep (Finset.range 8) (OD m 1 1 c))
      ⊢ (iprop(∃ g, ⌜Result m c g⌝ ∗ ((c : Thread nD τ).loc main_v1 ↦{fullShare} g)) : sProp 𝕄) := by
  have h1 : ∀ d j : Fin 2, bigSep (Finset.range 8) (OD m d j c)
      = bigSep Finset.univ fun e : Dev nD => owns (c : Thread nD τ) (oV d j e) fullShare (mm (half m d e) (bcol m j c)) := fun d j => by
    rw [← steps_eq d c]; rfl
  have h2 := bigSep_two_two (F := F) fun t => bigSep Finset.univ fun e : Dev nD => owns (c : Thread nD τ) (oV t.1 t.2 e) fullShare (mm (half m t.1 e) (bcol m t.2 c))
  have h4 : ∀ f : (Fin 2 × Fin 2) × Dev nD → Buf (Elt F) ((c : Thread nD τ).loc main_v1),
      (bigSep Finset.univ fun t : (Fin 2 × Fin 2) × Dev nD => iprop(⌜(oV t.1.1 t.1.2 t.2).view.read (Elt F) (f t) = mm (half m t.1.1 t.2) (bcol m t.1.2 c)⌝
            ∗ ((c : Thread nD τ).loc main_v1 ↦[((oV t.1.1 t.1.2 t.2).view.set : Finset S24576x3072.Idx)]{fullShare} (f t))))
        ⊢ (iprop(∃ g, ⌜Result m c g⌝ ∗ ((c : Thread nD τ).loc main_v1 ↦{fullShare} g)) : sProp 𝕄) := fun f => by
    iintro H
    ihave H := (BI.bigSep_pure_sep Finset.univ (fun t : (Fin 2 × Fin 2) × Dev nD => (oV t.1.1 t.1.2 t.2).view.read (Elt F) (f t) = mm (half m t.1.1 t.2) (bcol m t.1.2 c))
      (fun t => ((c : Thread nD τ).loc main_v1 ↦[((oV t.1.1 t.1.2 t.2).view.set : Finset S24576x3072.Idx)]{fullShare} (f t)))) $$ H
    icases H with ⟨%hf, H⟩
    ihave H := (join_pieces (F := F) (ℓ := (c : Thread nD τ).loc main_v1) (fun t : (Fin 2 × Fin 2) × Dev nD => ((oV t.1.1 t.1.2 t.2).view.set : Finset S24576x3072.Idx))
      oV_disj oV_cover f (f ((0, 0), c))) $$ H
    icases H with ⟨%g, %hg, H⟩
    iexists g
    isplitr
    · ipureintro
      intro d j e
      rw [← hf ((d, j), e) (Finset.mem_univ _)]
      funext i
      exact hg ((d, j), e) _ (View.emb_mem_set _ i)
    iexact H
  rw [h1, h1, h1, h1]
  refine BIBase.Entails.trans (Entails.of_eq h2.symm) ?_
  rw [← bigSep_univ_prod (fun t : (Fin 2 × Fin 2) × Dev nD => owns (c : Thread nD τ) (oV t.1.1 t.1.2 t.2) fullShare (mm (half m t.1.1 t.2) (bcol m t.1.2 c)))]
  have h3 : ∀ t : (Fin 2 × Fin 2) × Dev nD, owns (c : Thread nD τ) (oV t.1.1 t.1.2 t.2) fullShare (mm (half m t.1.1 t.2) (bcol m t.1.2 c))
      ⊢ (iprop(∃ f : Buf (Elt F) ((c : Thread nD τ).loc main_v1),
          ⌜(oV t.1.1 t.1.2 t.2).view.read (Elt F) f = mm (half m t.1.1 t.2) (bcol m t.1.2 c)⌝
            ∗ ((c : Thread nD τ).loc main_v1 ↦[((oV t.1.1 t.1.2 t.2).view.set : Finset S24576x3072.Idx)]{fullShare} f)) : sProp 𝕄) := fun t => by
    unfold owns
    iintro H
    iexact H
  refine BIBase.Entails.trans (bigSep_mono fun t _ => h3 t) ?_
  refine BIBase.Entails.trans (BI.bigSep_exists_pi Finset.univ fun (t : (Fin 2 × Fin 2) × Dev nD) (f : Buf (Elt F) ((c : Thread nD τ).loc main_v1)) =>
    iprop(⌜(oV t.1.1 t.1.2 t.2).view.read (Elt F) f = mm (half m t.1.1 t.2) (bcol m t.1.2 c)⌝
            ∗ ((c : Thread nD τ).loc main_v1 ↦[((oV t.1.1 t.1.2 t.2).view.set : Finset S24576x3072.Idx)]{fullShare} f))) ?_
  iintro ⟨%f, H⟩
  iapply (h4 f) $$ H

end Cert.Ring
-- ==== Proof.Entry.lean ====
/-
The start of the run: the ghost state a device is dealt, the steps before the loop, and the loop.
-/
module

public import proofs.«01_k».proof.Proof.Pieces

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]
local notation "𝕄" => MM F

variable (m : (ℓ : Loc nD τ sig) → Buf (Elt F) ℓ) (ρ : Dev nD → PrngReg)
variable (K : Dev nD × Kd → ℕ) (KS : Key → ℕ)

/-- The device's block of `A`, whole. -/
def A0 (c : Dev nD) : sProp 𝕄 := ((c : Thread nD τ).loc main_arg0 ↦{fullShare} m ((c : Thread nD τ).loc main_arg0))

/-- Where a device stands at its own cells of a direction, at launch. -/
def At0 (d : Fin 2) (c : Dev nD) : sProp 𝕄 :=
  iprop(atPos ER (cell c (.send d 0)) 0 ∅ 0 ∗ atPos ER (cell c (.send d 1)) 0 ∅ 0 ∗ atPos ER (cell c (.recv d 0)) 0 ∅ 0
    ∗ atPos ER (cell c (.recv d 1)) 0 ∅ 0 ∗ atPos ER (cell c (.cap d)) 0 ∅ 0)
/-- What a device is dealt of a direction. -/
def DirG (d : Fin 2) (c : Dev nD) : sProp 𝕄 :=
  iprop(At0 d c ∗ Fut d c 0 ∗ CapF d c 0 ∗ Dut d c 0 ∗ readerAt ES (c, d, 0) 0 ∗ readerAt ES (c, d, 1) 0)
/-- What a device is dealt of the barrier. -/
def BarG (c : Dev nD) : sProp 𝕄 :=
  iprop(atPos ER (cell c .bar) 0 ∅ 0 ∗ dutyTok ER (cell (src 0 c) .bar) 0 0 ∗ dutyTok ER (cell (src 1 c) .bar) 0 1 ∗ cred (tallyAt (cell c .bar) 0 2))

/-- The second slot of a direction released before anything is sent: the first hop is allowed into it. -/
theorem first_release (d : Fin 2) (c : Dev nD) :
    iprop(Bun m K KS ∗ SL (c, d, 1) ∗ readerAt ES (c, d, 1) 0) ⊢ |={Set.univ}=> iprop(readerAt ES (c, d, 1) 1 ∗ Rel d c 0) := by
  iintro ⟨#HB, Hs, Hrd⟩
  ihave #HS := (Bun_slot m K KS (c, d, 1)) $$ HB
  ihave Hc := (Bun_cell m K KS c (.recv d 1)) $$ HB
  icases Hc with ⟨-, #Hr⟩
  imod (slot_release ES (Set.mem_univ (KS (c, d, 1))) (SL_excl (c, d, 1)) 0) $$ [Hs Hrd] with ⟨H0, Hrel⟩
  · isplitr; · iexact HS
    isplitl [Hrd] <;> iassumption
  imodintro
  isplitl [H0]; · iexact H0
  unfold Rel
  isplitl [Hrel]; · iexact Hrel
  iexact Hr

/-- The signal to a neighbour's barrier: the first hop into this device is allowed. -/
theorem barSignal_step (i : ℕ) (h2 : i < 2) (c n : Dev nD) (hn : n = src (dirOf i) c) {sB : Sem sig} (hs : sB = barS) {x : ℤ} (hx : x = ((1 : ℕ) : ℤ))
    {α : Type} {p : PUnit → Prog (TpuEff nD τ sig (Elt F) Λ₀ .tc) α} {Q : α → sProp 𝕄}
    {O O' : CellTallies nD τ sig ℕ} (hO : O' = O + oBar (dirOf i) c) :
    iprop(Bun m K KS ∗ dutyTok ER (cell (src (dirOf i) c) .bar) 0 i ∗ Rel (dirOf i) c 0 ∗ OW c O')
      ⊢ iprop((OW c O -∗ WP c (p ⟨⟩) Q) -∗ WP c (.op (.semSignal (Dev.tc n : Thread nD τ) sB x) p) Q) := by
  subst hn hs hx
  unfold OW
  iintro ⟨#HB, Ht, Hrel, ⟨%W, HO⟩⟩ Hk
  ihave Hc1 := (Bun_cell m K KS (src (dirOf i) c) .bar) $$ HB
  icases Hc1 with ⟨#HI, #Hr⟩
  iapply (Rounds.wp_signal 𝒱₀ ER (Rd m) (c : Thread nD τ) none (dst := ((src (dirOf i) c : Dev nD) : Thread nD τ)) (κ := K (src (dirOf i) c, .bar)) (r := 0) (d := i)
      (by show i ∈ (Rd m).duties (cell (src (dirOf i) c) .bar) 0; rw [Rd_duties m _ _ Nat.one_pos]; exact Finset.mem_range.mpr h2)
      (Rd_amount m (src (dirOf i) c) .bar 0 i) 0 O hO (W := W)) $$ [HO Ht Hrel]
  · isplitr; · iexact HI
    isplitl [HO]; · iexact HO
    isplitl [Ht]; · iexact Ht
    isplitl [Hrel]
    · have hp : (Rd m).payload (cell (src (dirOf i) c) .bar) 0 i = Rel (dirOf i) c 0 := by
        rw [Rd_payload]; dsimp only [pay]; rw [dst_src]
      iapply (Entails.of_eq hp.symm) $$ Hrel
    iexact Hr
  iintro HO
  iapply Hk
  iexists W; iexact HO

/-- The wait for both neighbours: the first hop of both directions is allowed. -/
theorem barWait_step (c : Dev nD) {sB : Sem sig} (hs : sB = barS) {x : ℤ} (hx : x = ((2 : ℕ) : ℤ))
    {α : Type} {p : PUnit → Prog (TpuEff nD τ sig (Elt F) Λ₀ .tc) α} {Q : α → sProp 𝕄}
    {O : CellTallies nD τ sig ℕ} (hO : Low O 1) :
    iprop(Bun m K KS ∗ cred (tallyAt (cell c .bar) 0 2) ∗ atPos ER (cell c .bar) 0 ∅ 0 ∗ OW c O)
      ⊢ iprop((iprop(OW c O ∗ atPos ER (cell c .bar) 1 ∅ 0 ∗ Rel 0 (dst 0 c) 0 ∗ Rel 1 (dst 1 c) 0) -∗ WP c (p ⟨⟩) Q)
          -∗ WP c (.op (.semWait sB x) p) Q) := by
  subst hs hx
  unfold OW
  iintro ⟨#HB, Hc, Hat, ⟨%W, HO⟩⟩ Hk
  ihave Hc1 := (Bun_cell m K KS c .bar) $$ HB
  icases Hc1 with ⟨#HI, -⟩
  ihave #Hlev := (Bun_lev m K KS) $$ HB
  iapply (Rounds.wp_wait_rest_token 𝒱₀ ER (Rd m) (c : Thread nD τ) none (κ := K (c, .bar))
      (wpE_semWait_eq 𝒱₀ (c : Thread nD τ) none Set.univ) (Set.mem_univ _) 0 (R := 0) (m := 0) (T := ∅)
      (by show 0 + 2 = (Rd m).expect (cell c .bar) 0; rw [Rd_expect m c .bar Nat.one_pos]; rfl))
    $$ [Hc HO Hat]
  · isplitr; · iexact HI
    isplitl [Hc]; · iexact Hc
    isplitl [HO]; · iexact HO
    isplitr
    · iapply (mayWait hO c (semOf .bar) 0 (by omega) (le_of_eq (lv_cell c .bar 0))) $$ Hlev
    iexact Hat
  iintro ⟨HO, Hat, -, Hpay⟩
  have hrest : bigSep ((Rd m).duties (cell c .bar) 0 \ ∅) (fun i => (Rd m).payload (cell c .bar) 0 i)
      = iprop(Rel 0 (dst 0 c) 0 ∗ Rel (F := F) 1 (dst 1 c) 0) := by
    rw [Finset.sdiff_empty, Rd_duties m c _ Nat.one_pos, bigSep_eq_bigSepL_of_eq [0, 1] (by decide) (by decide)]
    show iprop((Rd m).payload (cell c .bar) 0 0 ∗ (Rd m).payload (cell c .bar) 0 1) = _
    rw [Rd_payload, Rd_payload]
    rfl
  ihave Hp := (Entails.of_eq hrest) $$ Hpay
  icases Hp with ⟨H0, H1⟩
  iapply Hk
  isplitl [HO]; · iexists _; iexact HO
  isplitl [Hat]; · iexact Hat
  isplitl [H0] <;> iassumption

/-- The credit of the first copy. -/
@[irreducible] def NS : ℕ := seedM.view.dmaCredit
theorem NS_eq : seedM.view.dmaCredit = NS := by unfold NS; rfl
theorem NS_pos : 0 < NS := by unfold NS; exact View.dmaCredit_pos _ (by decide)

/-- The copy of the device's block of `A` into the first slots, in flight. -/
def SF (c : Dev nD) : sProp 𝕄 :=
  Transfers.Flight EC (c : Thread nD τ) (SemLoc.dma (cpS 0 0)) 0 NS
    iprop((owns (c : Thread nD τ) (cV 0 (par 0)) fullShare (half m 0 (orig 0 c 0)) ∗ owns (c : Thread nD τ) (cV 1 (par 0)) fullShare (half m 1 (orig 1 c 0))) ∗ A0 m c)

/-- The start of that copy. -/
theorem seed_step (c : Dev nD) {q : DmaSem sig} (hq : q = cpS 0 0) (f : Buf (Elt F) (seedM.view.loc (c : Thread nD τ)))
    {hsrc : aM.view.WordExact} {hdst : seedM.view.WordExact} {hsem : DmaTarget.Typed (nD := nD) (τ := τ) (p := .tc) .hbm (.dma q) (.here seedM)}
    {α : Type} {p : PUnit → Prog (TpuEff nD τ sig (Elt F) Λ₀ .tc) α} {Q : α → sProp 𝕄} :
    iprop(A0 m c ∗ (seedM.view.loc (c : Thread nD τ) ↦[seedM.view.set]{fullShare} f) ∗ semVal ((c : Thread nD τ), SemLoc.dma (cpS 0 0)) 0)
      ⊢ iprop((SF m c -∗ WP c (p ⟨⟩) Q) -∗ WP c (.op (.enqueueDma aM (.here seedM) (.dma q) hsrc hdst hsem) p) Q) := by
  subst hq
  have hA : A0 m c = (aM.view.loc (c : Thread nD τ) ↦[aM.view.set]{fullShare} m ((c : Thread nD τ).loc main_arg0)) := by
    unfold A0; rw [View.set_whole]
  have hD : iprop((seedM.view.loc (c : Thread nD τ) ↦[seedM.view.set]{fullShare}
        seedM.view.write (Elt F) f (aM.view.read (Elt F) (m ((c : Thread nD τ).loc main_arg0))) Finset.univ)
      ∗ (aM.view.loc (c : Thread nD τ) ↦[aM.view.set]{fullShare} m ((c : Thread nD τ).loc main_arg0)))
      ⊢ (iprop((owns (c : Thread nD τ) (cV 0 (par 0)) fullShare (half m 0 (orig 0 c 0)) ∗ owns (c : Thread nD τ) (cV 1 (par 0)) fullShare (half m 1 (orig 1 c 0))) ∗ A0 m c) : sProp 𝕄) := by
    rw [hA]
    iintro ⟨H, HA⟩
    isplitl [H]
    · iapply (seed_split m c f) $$ H
    · iexact HA
  unfold SF
  iintro ⟨HA, Hd, Hv⟩ Hk
  ihave HA := (Entails.of_eq hA) $$ HA
  iapply (Transfers.wp_dmaLocal EC 𝒱₀ (c : Thread nD τ) none (src := aM) (dst := seedM) (Sd := seedM.view.set) (fd := f) 0 NS
      (by unfold NS; rfl) NS_pos (Finset.Subset.refl _)) $$ [HA Hd Hv]
  · isplitl [HA]; · iexact HA
    isplitl [Hd]; · iexact Hd
    iexact Hv
  iintro HF
  iapply Hk
  iapply (Transfers.Flight_mono EC (c : Thread nD τ) hD) $$ HF

/-- The wait for it. -/
theorem seedWait_step (c : Dev nD) {q : DmaSem sig} (hq : q = cpS 0 0) {hsrc : aM.view.WordExact} {hdst : seedM.view.WordExact}
    {α : Type} {p : PUnit → Prog (TpuEff nD τ sig (Elt F) Λ₀ .tc) α} {Q : α → sProp 𝕄}
    {O : CellTallies nD τ sig ℕ} (hO : Low O 0) :
    iprop(Bun m K KS ∗ SF m c ∗ OW c O)
      ⊢ iprop((iprop(owns (c : Thread nD τ) (cV 0 (par 0)) fullShare (half m 0 (orig 0 c 0)) ∗ owns (c : Thread nD τ) (cV 1 (par 0)) fullShare (half m 1 (orig 1 c 0))
            ∗ A0 m c ∗ semVal ((c : Thread nD τ), SemLoc.dma (cpS 0 0)) 0 ∗ OW c O) -∗ WP c (p ⟨⟩) Q)
          -∗ WP c (.op (.waitDma2 q aM seedM hsrc hdst) p) Q) := by
  subst hq
  unfold OW SF
  iintro ⟨#HB, HF, ⟨%W, HO⟩⟩ Hk
  ihave #Hlev := (Bun_lev m K KS) $$ HB
  iapply (Transfers.wp_waitLocalO EC 𝒱₀ (c : Thread nD τ) none 0 NS_eq) $$ [HF HO]
  · isplitl [HF]; · iexact HF
    isplitl [HO]; · iexact HO
    iapply (mayWait hO c (.dma (cpS 0 0)) 0 (by omega) (le_of_eq (by dsimp only [lv]; rw [dec_cpS]))) $$ Hlev
  iintro ⟨⟨⟨H0, H1⟩, HA⟩, Hv, HO⟩
  iapply Hk
  isplitl [H0]; · iexact H0
  isplitl [H1]; · iexact H1
  isplitl [HA]; · iexact HA
  isplitl [Hv]; · iexact Hv
  iexists _; iexact HO

/-- A direction before hop 0. -/
theorem Dir_open (d : Fin 2) (c : Dev nD) :
    iprop(Bun m K KS ∗ owns (c : Thread nD τ) (cV d (par 0)) fullShare (half m d (orig d c 0)) ∗ At0 d c ∗ Fut d c 0 ∗ CapF d c 0 ∗ Dut d c 0
      ∗ readerAt ES (c, d, 0) 0 ∗ readerAt ES (c, d, 1) 1 ∗ Rel d c 0 ∗ Rel d (dst d c) 0) ⊢ Dir m d c 0 := by
  rw [Dir_eq, Pos_eq, RdrK_ne d c (by decide), CapSt_ne d c (by decide)]
  unfold At0 Rdr Rels
  iintro ⟨#HB, Hc, ⟨Hs0, Hs1, Hv0, Hv1, Hcp⟩, Hf, Hcf, Hdu, Hr0, Hr1, #Hrel, #Hrel'⟩
  ihave H := (Bun_cell m K KS c (.send d 0)) $$ HB
  icases H with ⟨-, #Hs0r⟩
  ihave H := (Bun_cell m K KS c (.send d 1)) $$ HB
  icases H with ⟨-, #Hs1r⟩
  ihave H := (Bun_cell m K KS c (.recv d 0)) $$ HB
  icases H with ⟨-, #Hv0r⟩
  isplitl [Hc]; · iexact Hc
  isplitl [Hs0 Hs1 Hv0 Hv1]
  · isplitl [Hs0]
    · isplitl [Hs0]; · iexact Hs0
      iexact Hs0r
    isplitl [Hs1]
    · isplitl [Hs1]; · iexact Hs1
      iexact Hs1r
    isplitl [Hv1]; · iexact Hv1
    isplitl [Hv0]; · iexact Hv0
    iexact Hv0r
  isplitl [Hf]; · iexact Hf
  isplitl [Hcp]
  · iexists ∅
    isplitr; · ipureintro; exact ⟨Finset.empty_subset _, Nat.zero_le _⟩
    isplitl [Hcp]; · iexact Hcp
    rw [bigSep_empty]
    iempintro
  isplitl [Hcf]; · iexact Hcf
  isplitl [Hdu]; · iexact Hdu
  isplitr
  · rw [show Finset.range (min 0 6 + 1) = {0} from rfl, bigSep_singleton]
    iexact Hrel
  isplitl [Hr0 Hr1]
  · isplitl [Hr1]; · iexact Hr1
    iexact Hr0
  iexact Hrel'

/-- The loop: seven hops. -/
theorem loop_step (c : Dev nD) (x y z : BitVec 32) {α : Type} {kk : PUnit → Prog (TpuEff nD τ sig (Elt F) Λ₀ .tc) α} {Q : α → sProp 𝕄} :
    Inv m K KS c 0 ⊢ iprop((Inv m K KS c 7 -∗ WP c (kk ⟨⟩) Q)
      -∗ WP c (Scf.Loop.for k0_t1_loop k0_t1_ok ⟨⟩ (k0_t1_body (F := F) aM (Memref.isWhole_whole _) bM (Memref.isWhole_whole _) oM (Memref.isWhole_whole _)
      cM (Memref.isWhole_whole _) tM (Memref.isWhole_whole _) cc0_scratch2 cc0_scratch3 cc0_scratch4 cc0_scratch5 cc0_scratch6 cc0_scratch7 cc0_scratch8
      c x y z) >>= kk) Q) := by
  unfold WP Scf.Loop.for
  iintro HI Hk
  iapply (Scf.wp_for_bind frame _ Set.univ _ _ _ _ _ _ (fun k _ => Inv m K KS c k) (fun k _ => trip m K KS c k x y z)) $$ HI
  iintro %acc HI
  iapply Hk
  iexact HI

end Cert.Ring
-- ==== Proof.First.lean ====
/-
The program up to the end of its loop.
-/
module

public import proofs.«01_k».proof.Proof.Entry

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]
local notation "𝕄" => MM F

variable (m : (ℓ : Loc nD τ sig) → Buf (Elt F) ℓ) (ρ : Dev nD → PrngReg)
variable (K : Dev nD × Kd → ℕ) (KS : Key → ℕ)

/-- The four copy semaphores, at zero. -/
def Cps (c : Dev nD) : sProp 𝕄 :=
  iprop(semVal ((c : Thread nD τ), SemLoc.dma (cpS 0 0)) 0 ∗ semVal ((c : Thread nD τ), SemLoc.dma (cpS 0 1)) 0
    ∗ semVal ((c : Thread nD τ), SemLoc.dma (cpS 1 0)) 0 ∗ semVal ((c : Thread nD τ), SemLoc.dma (cpS 1 1)) 0)

/-- What a device starts from. -/
def Start (c : Dev nD) : sProp 𝕄 :=
  iprop(Bun m K KS ∗ A0 m c ∗ (∃ f, (c : Thread nD τ).loc main_v1 ↦{fullShare} f) ∗ (∃ f, (c : Thread nD τ).loc cc0_scratch0 ↦{fullShare} f)
    ∗ (∃ f, (c : Thread nD τ).loc cc0_scratch1 ↦{fullShare} f) ∗ Cps c ∗ BO m c ∗ BarG c ∗ DirG 0 c ∗ DirG 1 c ∗ OW c (O₀ c))

/-- What is kept beside the loop. -/
def Aside (c : Dev nD) : sProp 𝕄 := iprop(A0 m c ∗ atPos ER (cell c .bar) 1 ∅ 0)

theorem sem_bar : (SemArray.scalar (sig.barrier 0 rfl) : Sems sig S_).sem = barS := by decide

set_option maxHeartbeats 4000000 in
/-- From the start to the end of the loop. -/
theorem first (c : Dev nD) :
    Start m K KS c ⊢ WP c (k0_part5 (F := F) aM (Memref.isWhole_whole _) bM (Memref.isWhole_whole _) oM (Memref.isWhole_whole _)
      cM (Memref.isWhole_whole _) tM (Memref.isWhole_whole _) cc0_scratch2 cc0_scratch3 cc0_scratch4 cc0_scratch5 cc0_scratch6 cc0_scratch7 cc0_scratch8)
      (fun r => iprop(⌜r.1 = c⌝ ∗ Inv m K KS c 7 ∗ Aside m c)) := by
  rw [k0_part5_eq_skeleton]
  unfold k0_part5_skel
  simp only [semSignalWord, semWaitWord, Prog.lift, Prog.bind_op, Prog.bind_ret, Prog.pure_eq_ret, wp_deviceId]
  unfold Start Cps BarG DirG
  iintro ⟨#HB, HA, ⟨%fo, Ho⟩, ⟨%fc, Hc⟩, ⟨%ft, Ht⟩, ⟨Hv00, Hv01, Hv10, Hv11⟩, Hb, ⟨Hbat, Hbt0, Hbt1, Hbc⟩,
    ⟨Hat0, Hf0, Hcf0, Hdu0, Hr00, Hr01⟩, ⟨Hat1, Hf1, Hcf1, Hdu1, Hr10, Hr11⟩, HO⟩
  ihave Hc := (comm_split c fc) $$ Hc
  icases Hc with ⟨Hc, HS0, HS1⟩
  imod (first_release m K KS 0 c) $$ [HS0 Hr01] with ⟨Hr01, #Hrel0⟩
  · isplitr; · iexact HB
    isplitl [HS0] <;> iassumption
  imod (first_release m K KS 1 c) $$ [HS1 Hr11] with ⟨Hr11, #Hrel1⟩
  · isplitr; · iexact HB
    isplitl [HS1] <;> iassumption
  iapply (seed_step m c (sem_cp 0 0 rfl) fc) $$ [HA Hc Hv00]
  · isplitl [HA]; · iexact HA
    isplitl [Hc] <;> iassumption
  iintro HSF
  iapply (barSignal_step m K KS 0 (by omega) c _ (Fin.ext ((k0_dev1_eq c).trans rfl)) sem_bar (by decide) (O' := O₀ c) (O := Ob c 0 0 0 0 + oBar 1 c) rfl) $$ [Hbt0 HO]
  · isplitr; · iexact HB
    isplitl [Hbt0]; · iexact Hbt0
    isplitr; · iexact Hrel0
    iexact HO
  iintro HO
  iapply (barSignal_step m K KS 1 (by omega) c _ (Fin.ext ((k0_dev2_eq c).trans rfl)) sem_bar (by decide) (O' := Ob c 0 0 0 0 + oBar 1 c) (O := Ob c 0 0 0 0) rfl) $$ [Hbt1 HO]
  · isplitr; · iexact HB
    isplitl [Hbt1]; · iexact Hbt1
    isplitr; · iexact Hrel1
    iexact HO
  iintro HO
  have hL : Low (Ob c 0 0 0 0) 1 := Low_Ob c le_rfl le_rfl le_rfl le_rfl
  iapply (barWait_step m K KS c sem_bar (by decide) hL) $$ [Hbc Hbat HO]
  · isplitr; · iexact HB
    isplitl [Hbc]; · iexact Hbc
    isplitl [Hbat] <;> iassumption
  iintro ⟨HO, Hbat, #Hn0, #Hn1⟩
  iapply (seedWait_step m K KS c (sem_cp 0 0 rfl) (Low_mono hL (by omega))) $$ [HSF HO]
  · isplitr; · iexact HB
    isplitl [HSF] <;> iassumption
  iintro ⟨Hc0, Hc1, HA, Hv00, HO⟩
  ihave Ho := (out_split c fo) $$ Ho
  icases Ho with ⟨⟨Ho00, Ho01⟩, Ho10, Ho11⟩
  ihave Ht := (stage_split c ft) $$ Ht
  icases Ht with ⟨⟨Ht00, Ht01⟩, Ht10, Ht11⟩
  iapply (loop_step m K KS c _ _ _) $$ [Hc0 Hat0 Hf0 Hcf0 Hdu0 Hr00 Hr01 Hc1 Hat1 Hf1 Hcf1 Hdu1 Hr10 Hr11 HO Ho00 Ho01 Ho10 Ho11 Ht00 Ht01 Ht10 Ht11 Hv00 Hv01 Hv10 Hv11 Hb]
  · have hT : ∀ d j : Fin 2, iprop(bigSep (Finset.Ico 0 8) (OA d j c) ∗ TF d j c ∗ semVal ((c : Thread nD τ), SemLoc.dma (cpS d j)) 0) ⊢ Tl m d j c 0 := fun d j => by
      rw [Tl_zero]
      unfold TW
      iintro ⟨H1, H2, H3⟩
      isplitl [H1]; · iexact H1
      isplitr; · rw [Finset.range_zero, bigSep_empty]; iempintro
      isplitl [H2] <;> iassumption
    unfold Inv
    isplitr; · iexact HB
    isplitl [Hc0 Hat0 Hf0 Hcf0 Hdu0 Hr00 Hr01]
    · iapply (Dir_open m K KS 0 c)
      isplitr; · iexact HB
      isplitl [Hc0]; · iexact Hc0
      isplitl [Hat0]; · iexact Hat0
      isplitl [Hf0]; · iexact Hf0
      isplitl [Hcf0]; · iexact Hcf0
      isplitl [Hdu0]; · iexact Hdu0
      isplitl [Hr00]; · iexact Hr00
      isplitl [Hr01]; · iexact Hr01
      isplitr; · iexact Hrel0
      iexact Hn0
    isplitl [Hc1 Hat1 Hf1 Hcf1 Hdu1 Hr10 Hr11]
    · iapply (Dir_open m K KS 1 c)
      isplitr; · iexact HB
      isplitl [Hc1]; · iexact Hc1
      isplitl [Hat1]; · iexact Hat1
      isplitl [Hf1]; · iexact Hf1
      isplitl [Hcf1]; · iexact Hcf1
      isplitl [Hdu1]; · iexact Hdu1
      isplitl [Hr10]; · iexact Hr10
      isplitl [Hr11]; · iexact Hr11
      isplitr; · iexact Hrel1
      iexact Hn1
    isplitl [Ho00 Ht00 Hv00]
    · iapply (hT 0 0)
      isplitl [Ho00]; · iexact Ho00
      isplitl [Ht00] <;> iassumption
    isplitl [Ho10 Ht10 Hv10]
    · iapply (hT 1 0)
      isplitl [Ho10]; · iexact Ho10
      isplitl [Ht10] <;> iassumption
    isplitl [Ho01 Ht01 Hv01]
    · iapply (hT 0 1)
      isplitl [Ho01]; · iexact Ho01
      isplitl [Ht01] <;> iassumption
    isplitl [Ho11 Ht11 Hv11]
    · iapply (hT 1 1)
      isplitl [Ho11]; · iexact Ho11
      isplitl [Ht11] <;> iassumption
    isplitl [Hb] <;> iassumption
  iintro HI
  iapply (WP_ret c _ (fun r : (Σ' (d0 : Dev nD) (v2 : BitVec 32), BitVec 32) => iprop(⌜r.1 = c⌝ ∗ Inv m K KS c 7 ∗ Aside m c)))
  isplitr; · ipureintro; rfl
  isplitl [HI]; · iexact HI
  unfold Aside
  isplitl [HA] <;> iassumption

end Cert.Ring
-- ==== Proof.Last.lean ====
/-
The program after its loop, and the whole program.
-/
module

public import proofs.«01_k».proof.Proof.First

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]
local notation "𝕄" => MM F

variable (m : (ℓ : Loc nD τ sig) → Buf (Elt F) ℓ) (ρ : Dev nD → PrngReg)
variable (K : Dev nD × Kd → ℕ) (KS : Key → ℕ)

/-- A device's cells of a direction, closed at zero. -/
def DirZ (d : Fin 2) (c : Dev nD) : sProp 𝕄 :=
  iprop(semVal (cell c (.send d 0)) 0 ∗ semVal (cell c (.send d 1)) 0 ∗ semVal (cell c (.recv d 0)) 0 ∗ semVal (cell c (.recv d 1)) 0 ∗ semVal (cell c (.cap d)) 0)

/-- What a device ends with. -/
def Done (c : Dev nD) : sProp 𝕄 :=
  iprop(A0 m c ∗ (∃ g, ⌜Result m c g⌝ ∗ ((c : Thread nD τ).loc main_v1 ↦{fullShare} g)) ∗ (∃ f, (c : Thread nD τ).loc cc0_scratch0 ↦{fullShare} f)
    ∗ (∃ f, (c : Thread nD τ).loc cc0_scratch1 ↦{fullShare} f) ∗ Cps c ∗ BO m c ∗ semVal (cell c .bar) 0 ∗ DirZ 0 c ∗ DirZ 1 c ∗ OW c 0)

/-- A cell past its last round is closed. -/
theorem shut (c : Dev nD) (k : Kd) {R : ℕ} (hR : R = rounds k) :
    iprop(Bun m K KS ∗ atPos ER (cell c k) R ∅ 0) ⊢ |={Set.univ}=> semVal (cell c k) 0 := by
  iintro ⟨#HB, Hat⟩
  ihave H := (Bun_cell m K KS c k) $$ HB
  icases H with ⟨#HI, -⟩
  imod (Rounds.cell_close ER (Rd m) (Set.mem_univ (K (c, k))) (fun h => h) (R := R) (Rd_later m c k hR)) $$ [Hat] with Hz
  · isplitr; · iexact HI
    iexact Hat
  imodintro
  iexact Hz

/-- A direction after the last hop: its cells close, its slots are the device's. -/
theorem Dir_shut (d : Fin 2) (c : Dev nD) :
    iprop(Bun m K KS ∗ Dir m d c 7) ⊢ |={Set.univ}=> iprop(DirZ d c ∗ SL (c, d, 0) ∗ SL (c, d, 1)) := by
  rw [Dir_eq, Pos_eq, RdrK_seven, CapSt_seven]
  iintro ⟨#HB, Hc, ⟨⟨Hs1, -⟩, ⟨Hs0, -⟩, Hv0, ⟨Hv1, -⟩⟩, -, Hcp, -, -, -, HS, -⟩
  imod (shut m K KS c (.send d 1) (R := 3) rfl) $$ [Hs1] with Hs1
  · isplitr; · iexact HB
    iexact Hs1
  imod (shut m K KS c (.send d 0) (R := 4) rfl) $$ [Hs0] with Hs0
  · isplitr; · iexact HB
    iexact Hs0
  imod (shut m K KS c (.recv d 0) (R := 3) rfl) $$ [Hv0] with Hv0
  · isplitr; · iexact HB
    iexact Hv0
  imod (shut m K KS c (.recv d 1) (R := 4) rfl) $$ [Hv1] with Hv1
  · isplitr; · iexact HB
    iexact Hv1
  imod (shut m K KS c (.cap d) (R := 1) rfl) $$ [Hcp] with Hcp
  · isplitr; · iexact HB
    iexact Hcp
  imodintro
  isplitl [Hs0 Hs1 Hv0 Hv1 Hcp]
  · unfold DirZ
    isplitl [Hs0]; · iexact Hs0
    isplitl [Hs1]; · iexact Hs1
    isplitl [Hv0]; · iexact Hv0
    isplitl [Hv1]; · iexact Hv1
    iexact Hcp
  isplitl [HS]; · iexact HS
  unfold SL
  iexists _
  iexact Hc

/-- The end of the run. -/
theorem finish (c : Dev nD) :
    iprop(Bun m K KS ∗ Dir m 0 c 7 ∗ Dir m 1 c 7 ∗ (TW m 0 0 c 8 ∗ TW m 0 1 c 8) ∗ (TW m 1 0 c 8 ∗ TW m 1 1 c 8) ∗ BO m c ∗ OW c (Ob c 7 7 7 7) ∗ Aside m c)
      ⊢ |={Set.univ}=> Done m c := by
  have hO : Ob c 7 7 7 7 = 0 := by
    unfold Ob; rw [Ow_end 0 c (by omega) (by omega), Ow_end 1 c (by omega) (by omega), add_zero]
  rw [hO]
  unfold Aside TW
  iintro ⟨#HB, H0, H1, ⟨⟨-, Hd00, Ht00, Hv00⟩, ⟨-, Hd01, Ht01, Hv01⟩⟩, ⟨⟨-, Hd10, Ht10, Hv10⟩, ⟨-, Hd11, Ht11, Hv11⟩⟩, Hb, HO, HA, Hbat⟩
  imod (Dir_shut m K KS 0 c) $$ [H0] with ⟨HZ0, HS00, HS01⟩
  · isplitr; · iexact HB
    iexact H0
  imod (Dir_shut m K KS 1 c) $$ [H1] with ⟨HZ1, HS10, HS11⟩
  · isplitr; · iexact HB
    iexact H1
  imod (shut m K KS c .bar (R := 1) rfl) $$ [Hbat] with Hbz
  · isplitr; · iexact HB
    iexact Hbat
  imodintro
  unfold Done Cps
  isplitl [HA]; · iexact HA
  isplitl [Hd00 Hd01 Hd10 Hd11]
  · iapply (out_join m c)
    isplitl [Hd00 Hd01]
    · isplitl [Hd00] <;> iassumption
    · isplitl [Hd10] <;> iassumption
  isplitl [HS00 HS01 HS10 HS11]
  · iapply (comm_join c)
    isplitl [HS00]; · iexact HS00
    isplitl [HS01]; · iexact HS01
    isplitl [HS10] <;> iassumption
  isplitl [Ht00 Ht01 Ht10 Ht11]
  · iapply (stage_join c)
    isplitl [Ht00 Ht01]
    · isplitl [Ht00] <;> iassumption
    · isplitl [Ht10] <;> iassumption
  isplitl [Hv00 Hv01 Hv10 Hv11]
  · isplitl [Hv00]; · iexact Hv00
    isplitl [Hv01]; · iexact Hv01
    isplitl [Hv10] <;> iassumption
  isplitl [Hb]; · iexact Hb
  isplitl [Hbz]; · iexact Hbz
  isplitl [HZ0]; · iexact HZ0
  isplitl [HZ1] <;> iassumption

theorem last_off0 (c : Dev nD) (j : Fin 2) :
    (![3072 * ((c.val + 1) % 8), 1536 * j.val] : Fin 2 → ℕ) = ![3072 * (orig 0 c 7).val + 1536 * (0 : Fin 2).val, 1536 * j.val] := by
  revert c j; decide
theorem last_off1 (c : Dev nD) (j : Fin 2) :
    (![3072 * ((c.val + 7) % 8) + 1536, 1536 * j.val] : Fin 2 → ℕ) = ![3072 * (orig 1 c 7).val + 1536 * (1 : Fin 2).val, 1536 * j.val] := by
  revert c j; decide

set_option maxHeartbeats 4000000 in
/-- The whole program on a device. -/
theorem body (c : Dev nD) :
    Start m K KS c ⊢ WP c (cc0_body (F := F) aM (Memref.isWhole_whole _) bM (Memref.isWhole_whole _) oM (Memref.isWhole_whole _)
      cM (Memref.isWhole_whole _) tM (Memref.isWhole_whole _) cc0_scratch2 cc0_scratch3 cc0_scratch4 cc0_scratch5 cc0_scratch6 cc0_scratch7 cc0_scratch8)
      (fun _ => Done m c) := by
  rw [cc0_body_eq_skeleton]
  unfold cc0_body_skel WP
  rw [wp_bind]
  refine BIBase.Entails.trans (first m K KS c) (wp_mono _ _ _ fun r => ?_)
  obtain ⟨d0, v2, v22⟩ := r
  iintro ⟨%hd, HI, Has⟩
  have hd' : d0 = c := hd
  subst hd'
  clear hd
  simp only [k0_part6_eq_skeleton, k0_part7_eq_skeleton, k0_part8_eq_skeleton, k0_part9_eq_skeleton]
  unfold k0_part6_skel k0_part7_skel k0_part8_skel k0_part9_skel
  simp only [Prog.lift, Prog.bind_op, Prog.bind_ret, Prog.pure_eq_ret]
  have hL : Low (Ob d0 7 7 7 7) 0 := Low_mono (Low_Ob d0 (n := 7) le_rfl le_rfl le_rfl le_rfl) (by omega)
  have h0 : Dir m 0 d0 7 ⊢ iprop(owns (d0 : Thread nD τ) (cV 0 1) fullShare (half m 0 (orig 0 d0 7))
      ∗ (owns (d0 : Thread nD τ) (cV 0 1) fullShare (half m 0 (orig 0 d0 7)) -∗ Dir m 0 d0 7)) := by
    rw [Dir_eq]
    iintro ⟨Hc, Hr⟩
    isplitl [Hc]; · iexact Hc
    iintro Hc
    isplitl [Hc]; · iexact Hc
    iexact Hr
  have h1 : Dir m 1 d0 7 ⊢ iprop(owns (d0 : Thread nD τ) (cV 1 1) fullShare (half m 1 (orig 1 d0 7))
      ∗ (owns (d0 : Thread nD τ) (cV 1 1) fullShare (half m 1 (orig 1 d0 7)) -∗ Dir m 1 d0 7)) := by
    rw [Dir_eq]
    iintro ⟨Hc, Hr⟩
    isplitl [Hc]; · iexact Hc
    iintro Hc
    isplitl [Hc]; · iexact Hc
    iexact Hr
  unfold Inv
  icases HI with ⟨#HB, H0, H1, T00, T10, T01, T11, Hb, HO⟩
  ihave H0 := h0 $$ H0
  icases H0 with ⟨Hc0, Hr0⟩
  ihave H1 := h1 $$ H1
  icases H1 with ⟨Hc1, Hr1⟩
  iapply (tileWait_step m K KS 0 0 d0 6 (sem_cp 0 0 rfl) credit_out hL) $$ [T00 HO]
  · isplitr; · iexact HB
    isplitl [T00] <;> iassumption
  iintro ⟨T00, HO⟩
  iapply (tile_step m 0 0 1 d0 7 (by omega) fullShare rfl rfl rfl ((k0_off18_eq d0).trans (last_off0 d0 0)) (fun _ _ => rfl) (sem_cp 0 0 rfl)) $$ [Hc0 Hb T00]
  · isplitl [Hc0]; · iexact Hc0
    isplitl [Hb] <;> iassumption
  iintro ⟨Hc0, Hb, T00⟩
  iapply (tileWait_step m K KS 1 0 d0 6 (sem_cp 1 0 rfl) credit_out hL) $$ [T10 HO]
  · isplitr; · iexact HB
    isplitl [T10] <;> iassumption
  iintro ⟨T10, HO⟩
  iapply (tile_step m 1 0 1 d0 7 (by omega) fullShare rfl rfl rfl ((k0_off20_eq d0).trans (last_off1 d0 0)) (fun _ _ => rfl) (sem_cp 1 0 rfl)) $$ [Hc1 Hb T10]
  · isplitl [Hc1]; · iexact Hc1
    isplitl [Hb] <;> iassumption
  iintro ⟨Hc1, Hb, T10⟩
  iapply (tileWait_step m K KS 0 1 d0 6 (sem_cp 0 1 rfl) credit_out hL) $$ [T01 HO]
  · isplitr; · iexact HB
    isplitl [T01] <;> iassumption
  iintro ⟨T01, HO⟩
  iapply (tile_step m 0 1 1 d0 7 (by omega) fullShare rfl rfl rfl ((k0_off22_eq d0).trans (last_off0 d0 1)) (fun _ _ => rfl) (sem_cp 0 1 rfl)) $$ [Hc0 Hb T01]
  · isplitl [Hc0]; · iexact Hc0
    isplitl [Hb] <;> iassumption
  iintro ⟨Hc0, Hb, T01⟩
  iapply (tileWait_step m K KS 1 1 d0 6 (sem_cp 1 1 rfl) credit_out hL) $$ [T11 HO]
  · isplitr; · iexact HB
    isplitl [T11] <;> iassumption
  iintro ⟨T11, HO⟩
  iapply (tile_step m 1 1 1 d0 7 (by omega) fullShare rfl rfl rfl ((k0_off24_eq d0).trans (last_off1 d0 1)) (fun _ _ => rfl) (sem_cp 1 1 rfl)) $$ [Hc1 Hb T11]
  · isplitl [Hc1]; · iexact Hc1
    isplitl [Hb] <;> iassumption
  iintro ⟨Hc1, Hb, T11⟩
  iapply (tileWait_step m K KS 0 0 d0 7 (sem_cp 0 0 rfl) credit_out hL) $$ [T00 HO]
  · isplitr; · iexact HB
    isplitl [T00] <;> iassumption
  iintro ⟨T00, HO⟩
  iapply (tileWait_step m K KS 1 0 d0 7 (sem_cp 1 0 rfl) credit_out hL) $$ [T10 HO]
  · isplitr; · iexact HB
    isplitl [T10] <;> iassumption
  iintro ⟨T10, HO⟩
  iapply (tileWait_step m K KS 0 1 d0 7 (sem_cp 0 1 rfl) credit_out hL) $$ [T01 HO]
  · isplitr; · iexact HB
    isplitl [T01] <;> iassumption
  iintro ⟨T01, HO⟩
  iapply (tileWait_step m K KS 1 1 d0 7 (sem_cp 1 1 rfl) credit_out hL) $$ [T11 HO]
  · isplitr; · iexact HB
    isplitl [T11] <;> iassumption
  iintro ⟨T11, HO⟩
  iapply (fupd_wp frame _ Set.univ)
  imod (finish m K KS d0) $$ [Hc0 Hr0 Hc1 Hr1 T00 T01 T10 T11 Hb HO Has] with HD
  · isplitr; · iexact HB
    isplitl [Hc0 Hr0]; · iapply Hr0 $$ Hc0
    isplitl [Hc1 Hr1]; · iapply Hr1 $$ Hc1
    isplitl [T00 T01]
    · isplitl [T00] <;> iassumption
    isplitl [T10 T11]
    · isplitl [T10] <;> iassumption
    isplitl [Hb]; · iexact Hb
    isplitl [HO] <;> iassumption
  imodintro
  iapply (WP_ret d0 PUnit.unit (fun _ => Done m d0))
  iexact HD

end Cert.Ring
-- ==== Proof.Deal.lean ====
/-
The ghost state of the launch, dealt to the devices: each device gets the positions at its own cells, the tokens of the
duties it pays on its neighbours' cells, the writing tokens of its neighbours' slots and the readers of its own.
-/
module

public import proofs.«01_k».proof.Proof.Last
public import Idealize.ShloMosaic.Lib.SparseCore.Launch

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.SparseCore (bigSep_product)
open Idealize.ShloMosaic.Pipeline (Dat Cfg Window BodyObligation cellOf)

variable {F : FTy → Type} [FloatOps F]
local notation "𝕄" => MM F

variable (m : (ℓ : Loc nD τ sig) → Buf (Elt F) ℓ) (ρ : Dev nD → PrngReg)
variable (K : Dev nD × Kd → ℕ) (KS : Key → ℕ)

/-! ## The index families -/

set_option backward.proofsInPublic true in
/-- Every device and direction, moved along the direction. -/
def rot : (Dev nD × Fin 2) ≃ (Dev nD × Fin 2) :=
  ⟨fun p => (dst p.2 p.1, p.2), fun p => (src p.2 p.1, p.2), fun p => Prod.ext (src_dst p.2 p.1) rfl, fun p => Prod.ext (dst_src p.2 p.1) rfl⟩

theorem par_div {h h' : ℕ} (h1 : par h = par h') (h2 : h / 2 = h' / 2) : h = h' := by
  have := congrArg Fin.val h1
  simp only [par] at this
  omega
theorem par_succ_div {h h' : ℕ} (h1 : par (h + 1) = par (h' + 1)) (h2 : h / 2 = h' / 2) : h = h' := by
  have := congrArg Fin.val h1
  simp only [par] at this
  omega

/-- A duty's name. -/
abbrev DutyAt : Type := GSem nD τ sig × ℕ × ℕ
/-- A device, a direction and a hop. -/
abbrev HopAt : Type := (Dev nD × Fin 2) × ℕ

theorem hop_ext {p q : HopAt} (h1 : p.1.1 = q.1.1) (h2 : p.1.2 = q.1.2) (h3 : p.2 = q.2) : p = q :=
  Prod.ext (Prod.ext h1 h2) h3

theorem cell_of {x y : DutyAt} (h : x = y) : x.1 = y.1 ∧ x.2.1 = y.2.1 ∧ x.2.2 = y.2.2 := by subst h; exact ⟨rfl, rfl, rfl⟩

/-- The send duty of a hop, named by the device whose cell it is. -/
def eSend : HopAt ↪ DutyAt := ⟨fun p => (cell p.1.1 (.send p.1.2 (par p.2)), p.2 / 2, 0), fun p q h => by
  obtain ⟨hc, hr, -⟩ := cell_of h
  obtain ⟨h1, h2⟩ := cell_inj hc
  injection h2 with h3 h4
  exact hop_ext h1 h3 (par_div h4 hr)⟩
/-- The receive duty of a hop, named by the device whose cell it is. -/
def eRecv : HopAt ↪ DutyAt := ⟨fun p => (cell p.1.1 (.recv p.1.2 (par (p.2 + 1))), p.2 / 2, 0), fun p q h => by
  obtain ⟨hc, hr, -⟩ := cell_of h
  obtain ⟨h1, h2⟩ := cell_inj hc
  injection h2 with h3 h4
  exact hop_ext h1 h3 (par_succ_div h4 hr)⟩
/-- The capacity duty of a hop, named by the device whose cell it is. -/
def eCap : HopAt ↪ DutyAt := ⟨fun p => (cell p.1.1 (.cap p.1.2), 0, p.2), fun p q h => by
  obtain ⟨hc, -, hi⟩ := cell_of h
  obtain ⟨h1, h2⟩ := cell_inj hc
  injection h2 with h3
  exact hop_ext h1 h3 hi⟩
/-- A barrier's two duties. -/
def eBar : (Dev nD × Fin 2) ↪ DutyAt := ⟨fun p => (cell p.1 .bar, 0, p.2.val), fun p q h => by
  obtain ⟨hc, -, hi⟩ := cell_of h
  obtain ⟨h1, -⟩ := cell_inj hc
  exact Prod.ext h1 (Fin.ext hi)⟩
/-- The write of a hop, named by the slot it goes into. -/
def eWrite : HopAt ↪ Key × ℕ := ⟨fun p => ((p.1.1, p.1.2, par (p.2 + 1)), p.2 / 2), fun p q h => by
  have h1 := congrArg (fun x : Key × ℕ => x.1.1) h
  have h2 := congrArg (fun x : Key × ℕ => x.1.2.1) h
  have h3 := congrArg (fun x : Key × ℕ => x.1.2.2) h
  have h4 := congrArg (fun x : Key × ℕ => x.2) h
  exact hop_ext h1 h2 (par_succ_div h3 h4)⟩

/-- The hops before `n` of every device and direction. -/
abbrev hopsAt (n : ℕ) : Finset HopAt := (Finset.univ : Finset (Dev nD × Fin 2)) ×ˢ Finset.range n

def ringCells : Finset (GSem nD τ sig) :=
  (Finset.univ : Finset (Dev nD × Kd)).map ⟨fun x => cell x.1 x.2, fun x y h => Prod.ext (cell_inj h).1 (cell_inj h).2⟩
def ringToks : Finset DutyAt := (hopsAt 7).map eSend ∪ ((hopsAt 7).map eRecv ∪ ((hopsAt 6).map eCap ∪ Finset.univ.map eBar))

theorem kind_ne {c c' : Dev nD} {k k' : Kd} (h : k ≠ k') {a b : ℕ × ℕ} : ((cell c k, a) : DutyAt) ≠ (cell c' k', b) :=
  fun e => h (cell_inj (congrArg Prod.fst e)).2

theorem map_disj {α β : Type} {s : Finset α} {t : Finset β} {e : α ↪ DutyAt} {f : β ↪ DutyAt} (h : ∀ a b, e a ≠ f b) :
    Disjoint (s.map e) (t.map f) := Finset.disjoint_left.mpr fun x hx hy => by
  obtain ⟨a, -, rfl⟩ := Finset.mem_map.mp hx
  obtain ⟨b, -, hb⟩ := Finset.mem_map.mp hy
  exact h a b hb.symm

/-- A family over the launch's duties, kind by kind. -/
theorem ringToks_sep (Φ : DutyAt → sProp 𝕄) :
    bigSep ringToks Φ = iprop((bigSep Finset.univ fun p => bigSep (Finset.range 7) fun h => Φ (eSend (p, h)))
      ∗ (bigSep Finset.univ fun p => bigSep (Finset.range 7) fun h => Φ (eRecv (p, h)))
      ∗ (bigSep Finset.univ fun p => bigSep (Finset.range 6) fun h => Φ (eCap (p, h)))
      ∗ (bigSep Finset.univ fun p => Φ (eBar p))) := by
  unfold ringToks
  rw [bigSep_union, bigSep_union, bigSep_union, bigSep_map, bigSep_map, bigSep_map, bigSep_map,
    bigSep_product, bigSep_product, bigSep_product]
  · rfl
  · exact map_disj fun a b => kind_ne (fun h => by cases h)
  · exact Finset.disjoint_union_right.mpr ⟨map_disj fun a b => kind_ne (fun h => by cases h), map_disj fun a b => kind_ne (fun h => by cases h)⟩
  · exact Finset.disjoint_union_right.mpr ⟨map_disj fun a b => kind_ne (fun h => by cases h),
      Finset.disjoint_union_right.mpr ⟨map_disj fun a b => kind_ne (fun h => by cases h), map_disj fun a b => kind_ne (fun h => by cases h)⟩⟩

/-- The launch's tokens, kind by kind. -/
theorem ringToks_toks : (bigSep ringToks fun x => (dutyTok ER x.1 x.2.1 x.2.2 : sProp 𝕄))
    = iprop((bigSep Finset.univ fun p : Dev nD × Fin 2 => bigSep (Finset.range 7) fun h => dutyTok ER (cell p.1 (.send p.2 (par h))) (h / 2) 0)
      ∗ (bigSep Finset.univ fun p : Dev nD × Fin 2 => bigSep (Finset.range 7) fun h => dutyTok ER (cell p.1 (.recv p.2 (par (h + 1)))) (h / 2) 0)
      ∗ (bigSep Finset.univ fun p : Dev nD × Fin 2 => bigSep (Finset.range 6) fun i => dutyTok ER (cell p.1 (.cap p.2)) 0 i)
      ∗ (bigSep Finset.univ fun p : Dev nD × Fin 2 => dutyTok ER (cell p.1 .bar) 0 p.2.val)) :=
  ringToks_sep _

theorem ringCells_sep (Φ : GSem nD τ sig → sProp 𝕄) :
    bigSep ringCells Φ = bigSep Finset.univ fun x : Dev nD × Kd => Φ (cell x.1 x.2) := by
  unfold ringCells; rw [bigSep_map]; rfl

/-! ## What a device is dealt -/

/-- The barrier's share of the deal. -/
def BarT (c : Dev nD) : sProp 𝕄 :=
  iprop(atPos ER (cell c .bar) 0 ∅ 0 ∗ dutyTok ER (cell (src 0 c) .bar) 0 0 ∗ dutyTok ER (cell (src 1 c) .bar) 0 1)
/-- A direction's share of the deal. -/
def DirT (d : Fin 2) (c : Dev nD) : sProp 𝕄 :=
  iprop(At0 d c ∗ bigSep (Finset.range 7) (Tok d c) ∗ Dut d c 0 ∗ readerAt ES (c, d, 0) 0 ∗ readerAt ES (c, d, 1) 0)
/-- A device's share of the deal. -/
def Lin (c : Dev nD) : sProp 𝕄 := iprop(BarT c ∗ DirT 0 c ∗ DirT 1 c)

theorem two_dirs (Φ : Fin 2 → Dev nD → sProp 𝕄) :
    (bigSep Finset.univ fun p : Dev nD × Fin 2 => Φ p.2 p.1) = bigSep Finset.univ fun c => iprop(Φ 0 c ∗ Φ 1 c) := by
  rw [bigSep_univ_prod]
  exact bigSep_congr fun c _ => bigSep_fin_two (fun d => Φ d c)

/-- The positions, device by device. -/
theorem deal_pos : (bigSep Finset.univ fun x : Dev nD × Kd => (atPos ER (cell x.1 x.2) 0 ∅ 0 : sProp 𝕄))
    ⊢ iprop((bigSep Finset.univ fun c : Dev nD => atPos ER (cell c .bar) 0 ∅ 0) ∗ bigSep Finset.univ fun p : Dev nD × Fin 2 => At0 p.2 p.1) := by
  rw [bigSep_univ_prod, two_dirs (F := F) At0, ← bigSep_sep']
  refine bigSep_mono fun c _ => ?_
  rw [bigSep_univ_eq_bigSepL kds (by decide) (by decide)]
  show iprop(atPos ER (cell c .bar) 0 ∅ 0 ∗ atPos ER (cell c (.send 0 0)) 0 ∅ 0 ∗ atPos ER (cell c (.send 0 1)) 0 ∅ 0
    ∗ atPos ER (cell c (.send 1 0)) 0 ∅ 0 ∗ atPos ER (cell c (.send 1 1)) 0 ∅ 0 ∗ atPos ER (cell c (.recv 0 0)) 0 ∅ 0 ∗ atPos ER (cell c (.recv 0 1)) 0 ∅ 0
    ∗ atPos ER (cell c (.recv 1 0)) 0 ∅ 0 ∗ atPos ER (cell c (.recv 1 1)) 0 ∅ 0 ∗ atPos ER (cell c (.cap 0)) 0 ∅ 0 ∗ atPos ER (cell c (.cap 1)) 0 ∅ 0) ⊢ _
  unfold At0
  iintro ⟨H, H1, H2, H3, H4, H5, H6, H7, H8, H9, H10⟩
  isplitl [H]; · iexact H
  isplitl [H1 H2 H5 H6 H9]
  · isplitl [H1]; · iexact H1
    isplitl [H2]; · iexact H2
    isplitl [H5]; · iexact H5
    isplitl [H6] <;> iassumption
  · isplitl [H3]; · iexact H3
    isplitl [H4]; · iexact H4
    isplitl [H7]; · iexact H7
    isplitl [H8] <;> iassumption

/-- The writing tokens, each to the device that writes. -/
theorem deal_write : (bigSep ((Finset.univ : Finset Key) ×ˢ Finset.range 4) fun x => (writeTok ES x.1 (x.2 + 1) : sProp 𝕄))
    ⊢ bigSep Finset.univ fun p : Dev nD × Fin 2 => bigSep (Finset.range 7) fun h => writeTok ES (dst p.2 p.1, p.2, par (h + 1)) (h / 2 + 1) := by
  have hs : (hopsAt 7).map eWrite ⊆ (Finset.univ : Finset Key) ×ˢ Finset.range 4 := fun x hx => by
    obtain ⟨p, hp, rfl⟩ := Finset.mem_map.mp hx
    have := Finset.mem_range.mp (Finset.mem_product.mp hp).2
    exact Finset.mem_product.mpr ⟨Finset.mem_univ _, Finset.mem_range.mpr (show p.2 / 2 < 4 by omega)⟩
  refine (bigSep_subset hs).trans ?_
  rw [bigSep_map, bigSep_product, bigSep_univ_equiv rot]
  exact BI.Entails.refl _

/-- The slots' readers. -/
theorem deal_read : (bigSep (Finset.univ : Finset Key) fun x => (readerAt ES x 0 : sProp 𝕄))
    = bigSep Finset.univ fun p : Dev nD × Fin 2 => iprop(readerAt ES (p.1, p.2, 0) 0 ∗ readerAt ES (p.1, p.2, 1) 0) := by
  rw [bigSep_univ_equiv (Equiv.prodAssoc (Dev nD) (Fin 2) (Fin 2)), bigSep_univ_prod]
  exact bigSep_congr fun p _ => bigSep_fin_two _

/-- The barrier's tokens, each to the neighbour that pays. -/
theorem deal_bar : (bigSep Finset.univ fun p : Dev nD × Fin 2 => (dutyTok ER (cell p.1 .bar) 0 p.2.val : sProp 𝕄))
    = bigSep Finset.univ fun c => iprop(dutyTok ER (cell (src 0 c) .bar) 0 0 ∗ dutyTok ER (cell (src 1 c) .bar) 0 1) := by
  rw [bigSep_univ_equiv rot.symm]
  exact two_dirs (F := F) fun d c => dutyTok ER (cell (src d c) .bar) 0 d.val

/-- Everything the launch mints, dealt. -/
theorem deal :
    iprop((bigSep Finset.univ fun x : Dev nD × Kd => atPos ER (cell x.1 x.2) 0 ∅ 0)
      ∗ (bigSep ringToks fun x => dutyTok ER x.1 x.2.1 x.2.2)
      ∗ (bigSep ((Finset.univ : Finset Key) ×ˢ Finset.range 4) fun x => writeTok ES x.1 (x.2 + 1))
      ∗ (bigSep (Finset.univ : Finset Key) fun x => readerAt ES x 0))
    ⊢ (bigSep Finset.univ fun c : Dev nD => Lin c : sProp 𝕄) := by
  have hR : (bigSep Finset.univ fun p : Dev nD × Fin 2 => bigSep (Finset.range 7) fun h => (dutyTok ER (cell p.1 (.recv p.2 (par (h + 1)))) (h / 2) 0 : sProp 𝕄))
      ⊢ bigSep Finset.univ fun p : Dev nD × Fin 2 => bigSep (Finset.range 7) fun h => dutyTok ER (cell (dst p.2 p.1) (.recv p.2 (par (h + 1)))) (h / 2) 0 := by
    rw [bigSep_univ_equiv rot]; exact BI.Entails.refl _
  have hC : (bigSep Finset.univ fun p : Dev nD × Fin 2 => bigSep (Finset.range 6) fun i => (dutyTok ER (cell p.1 (.cap p.2)) 0 i : sProp 𝕄))
      ⊢ bigSep Finset.univ fun p : Dev nD × Fin 2 => Dut p.2 p.1 0 := by
    rw [bigSep_univ_equiv rot.symm]; exact bigSep_mono fun p _ => by unfold Dut; rw [← Finset.range_eq_Ico]; exact BI.Entails.refl _
  have hT : iprop((bigSep Finset.univ fun p : Dev nD × Fin 2 => bigSep (Finset.range 7) fun h => dutyTok ER (cell p.1 (.send p.2 (par h))) (h / 2) 0)
        ∗ (bigSep Finset.univ fun p : Dev nD × Fin 2 => bigSep (Finset.range 7) fun h => dutyTok ER (cell (dst p.2 p.1) (.recv p.2 (par (h + 1)))) (h / 2) 0)
        ∗ (bigSep Finset.univ fun p : Dev nD × Fin 2 => bigSep (Finset.range 7) fun h => writeTok ES (dst p.2 p.1, p.2, par (h + 1)) (h / 2 + 1)))
      ⊢ (bigSep Finset.univ fun p : Dev nD × Fin 2 => bigSep (Finset.range 7) (Tok p.2 p.1) : sProp 𝕄) := by
    rw [← bigSep_sep', ← bigSep_sep']
    refine bigSep_mono fun p _ => ?_
    rw [← bigSep_sep', ← bigSep_sep']
    exact bigSep_mono fun h _ => by unfold Tok; exact BI.Entails.refl _
  have hl (c : Dev nD) : iprop(atPos ER (cell c .bar) 0 ∅ 0 ∗ (dutyTok ER (cell (src 0 c) .bar) 0 0 ∗ dutyTok ER (cell (src 1 c) .bar) 0 1)
      ∗ DirT 0 c ∗ DirT 1 c) ⊢ (Lin c : sProp 𝕄) := by
    unfold Lin BarT
    iintro ⟨H1, ⟨H2, H3⟩, H4⟩
    isplitl [H1 H2 H3]
    · isplitl [H1]; · iexact H1
      isplitl [H2] <;> iassumption
    iexact H4
  have hL : iprop((bigSep Finset.univ fun c : Dev nD => atPos ER (cell c .bar) 0 ∅ 0)
        ∗ (bigSep Finset.univ fun c => iprop(dutyTok ER (cell (src 0 c) .bar) 0 0 ∗ dutyTok ER (cell (src 1 c) .bar) 0 1))
        ∗ (bigSep Finset.univ fun p : Dev nD × Fin 2 => DirT p.2 p.1))
      ⊢ (bigSep Finset.univ fun c : Dev nD => Lin c : sProp 𝕄) := by
    rw [two_dirs (F := F) DirT, ← bigSep_sep', ← bigSep_sep']
    exact bigSep_mono fun c _ => hl c
  have hD : iprop((bigSep Finset.univ fun p : Dev nD × Fin 2 => At0 p.2 p.1) ∗ (bigSep Finset.univ fun p : Dev nD × Fin 2 => bigSep (Finset.range 7) (Tok p.2 p.1))
        ∗ (bigSep Finset.univ fun p : Dev nD × Fin 2 => Dut p.2 p.1 0)
        ∗ (bigSep Finset.univ fun p : Dev nD × Fin 2 => iprop(readerAt ES (p.1, p.2, 0) 0 ∗ readerAt ES (p.1, p.2, 1) 0)))
      ⊢ (bigSep Finset.univ fun p : Dev nD × Fin 2 => DirT p.2 p.1 : sProp 𝕄) := by
    rw [← bigSep_sep', ← bigSep_sep', ← bigSep_sep']
    exact bigSep_mono fun p _ => by unfold DirT; exact BI.Entails.refl _
  rw [ringToks_toks, deal_read]
  iintro ⟨Hat, ⟨HtS, HtR, HtC, HtB⟩, Hw, Hr⟩
  ihave Hat := (deal_pos (F := F)) $$ Hat
  icases Hat with ⟨HatB, Hat⟩
  ihave Hw := (deal_write (F := F)) $$ Hw
  ihave HtR := hR $$ HtR
  ihave HtC := hC $$ HtC
  ihave HtB := (Entails.of_eq (deal_bar (F := F))) $$ HtB
  ihave HT := hT $$ [HtS HtR Hw]
  · isplitl [HtS]; · iexact HtS
    isplitl [HtR] <;> iassumption
  ihave HD := hD $$ [Hat HT HtC Hr]
  · isplitl [Hat]; · iexact Hat
    isplitl [HT]; · iexact HT
    isplitl [HtC] <;> iassumption
  iapply hL
  isplitl [HatB]; · iexact HatB
  isplitl [HtB] <;> iassumption

end Cert.Ring
-- ==== Proof.Funds.lean ====
/-
The launch: every cell's invariant and every slot's are made at once, and what each device starts from is put together.
-/
module

public import proofs.«01_k».proof.Proof.Deal

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]
local notation "𝕄" => MM F

variable (m : (ℓ : Loc nD τ sig) → Buf (Elt F) ℓ) (ρ : Dev nD → PrngReg)
variable (K : Dev nD × Kd → ℕ) (KS : Key → ℕ)

/-! ## The credit of the launch -/

/-- What every device owes one of a family of cells, one cell each, is what the cell's owner waits with. -/
theorem credit_at (σ σ' : Dev nD → Dev nD) (hσ : ∀ c, σ (σ' c) = c) (hσ' : ∀ c, σ' (σ c) = c) (k : Kd) (i n : ℕ) (c : Dev nD) :
    (Pipeline.launchCred (fun d => tallyAt (cell (σ d) k) i n) c : sProp 𝕄) ⊢ cred (tallyAt (cell c k) i n) := by
  have h : tallyOn (cell c k) (launchCredit (Pipeline.owing fun d => tallyAt (cell (σ d) k) i n) 0 (cell c k))
      = (tallyAt (cell c k) i n : CellTallies nD τ sig ℕ) := by
    unfold tallyAt
    refine congrArg _ (Finsupp.ext fun u => ?_)
    rw [Pipeline.launchCredit_owing]
    have e (d : Dev nD) : (tallyOn (cell (σ d) k) (Finsupp.single i n) : CellTallies nD τ sig ℕ) (cell c k) u
        = if d = σ' c then (Finsupp.single i n : Tally ℕ) u else 0 := by
      by_cases hd : d = σ' c
      · subst hd; rw [hσ, tallyOn_self, if_pos rfl]
      · rw [tallyOn_ne (fun h => hd (by rw [(cell_inj h).1, hσ'])), if_neg hd]; rfl
    rw [Finset.sum_congr rfl fun d _ => e d, Finset.sum_ite_eq' Finset.univ (σ' c), if_pos (Finset.mem_univ _)]
  exact (Pipeline.launchCred_elim _ c (semOf k)).trans (by rw [h])

theorem credit_sum (s : Finset ℕ) (f : ℕ → Dev nD → CellTallies nD τ sig ℕ) (c : Dev nD) :
    (Pipeline.launchCred (fun d => ∑ i ∈ s, f i d) c : sProp 𝕄) ⊢ bigSep s fun i => Pipeline.launchCred (f i) c := by
  induction s using Finset.induction_on with
  | empty => rw [bigSep_empty]; iintro -; iempintro
  | insert a s ha ih =>
    rw [show (fun d => ∑ i ∈ insert a s, f i d) = fun d => f a d + ∑ i ∈ s, f i d from funext fun d => Finset.sum_insert ha,
      Pipeline.launchCred_add, bigSep_insert ha]
    exact BI.sep_mono_r ih

/-- The receive credits of a direction. -/
def CredR (d : Fin 2) (c : Dev nD) : sProp 𝕄 := bigSep (Finset.range 7) fun h => cred (tallyAt (cell c (.recv d (par (h + 1)))) h N)

theorem credit_dir (d : Fin 2) (c : Dev nD) : (Pipeline.launchCred (fun e => Ow d e 0 0) c : sProp 𝕄) ⊢ iprop(CredR d c ∗ CapF d c 0) := by
  unfold Ow
  rw [Pipeline.launchCred_add]
  refine BI.sep_mono ((credit_sum _ _ c).trans ?_) ((credit_sum _ _ c).trans ?_)
  · unfold CredR; rw [Finset.range_eq_Ico]
    exact bigSep_mono fun h _ => credit_at (dst d) (src d) (fun c => dst_src d c) (fun c => src_dst d c) _ _ _ c
  · unfold CapF
    exact bigSep_mono fun h _ => credit_at (src d) (dst d) (fun c => src_dst d c) (fun c => dst_src d c) _ _ _ c

/-- The credit a device has at launch: its barrier's two units, and both directions'. -/
theorem credits (c : Dev nD) : (Pipeline.launchCred O₀ c : sProp 𝕄)
    ⊢ iprop(cred (tallyAt (cell c .bar) 0 2) ∗ (CredR 0 c ∗ CapF 0 c 0) ∗ (CredR 1 c ∗ CapF 1 c 0)) := by
  have h0 : (Pipeline.launchCred O₀ c : sProp 𝕄) = iprop(((Pipeline.launchCred (fun e => Ow 0 e 0 0) c ∗ Pipeline.launchCred (fun e => Ow 1 e 0 0) c)
      ∗ Pipeline.launchCred (oBar 1) c) ∗ Pipeline.launchCred (oBar 0) c) := by
    rw [← Pipeline.launchCred_add, ← Pipeline.launchCred_add, ← Pipeline.launchCred_add]; rfl
  have hb (d : Fin 2) : (Pipeline.launchCred (oBar d) c : sProp 𝕄) ⊢ cred (tallyAt (cell c .bar) 0 1) :=
    credit_at (src d) (dst d) (fun c => src_dst d c) (fun c => dst_src d c) .bar 0 1 c
  have hc : iprop(cred (tallyAt (cell c .bar) 0 1) ∗ cred (tallyAt (cell c .bar) 0 1)) ⊢ (cred (tallyAt (cell c .bar) 0 (1 + 1)) : sProp 𝕄) := by
    rw [← tallyAt_add]; exact (cred_add _ _).2
  rw [h0]
  iintro ⟨⟨⟨H0, H1⟩, Hb1⟩, Hb0⟩
  ihave H0 := (credit_dir (F := F) 0 c) $$ H0
  ihave H1 := (credit_dir (F := F) 1 c) $$ H1
  ihave Hb1 := (hb 1) $$ Hb1
  ihave Hb0 := (hb 0) $$ Hb0
  isplitl [Hb0 Hb1]
  · iapply hc
    isplitl [Hb0] <;> iassumption
  isplitl [H0] <;> iassumption

/-! ## The semaphores -/

/-- The kernel's own semaphores: all but the barrier and the pipeline's. -/
def osem : Fin 14 → SemLoc sig := fun
  | 0 => .dma (sendS 0 0) | 1 => .dma (sendS 0 1) | 2 => .dma (sendS 1 0) | 3 => .dma (sendS 1 1)
  | 4 => .dma (recvS 0 0) | 5 => .dma (recvS 0 1) | 6 => .dma (recvS 1 0) | 7 => .dma (recvS 1 1)
  | 8 => .reg (capS 0) | 9 => .reg (capS 1)
  | 10 => .dma (cpS 0 0) | 11 => .dma (cpS 0 1) | 12 => .dma (cpS 1 0) | 13 => .dma (cpS 1 1)

theorem ownSemFacts : Pipeline.OwnSemFacts cfg0.spec osem := by decide

theorem ownSems0_eq (c : Dev nD) : (Pipeline.ownSems0 (Ix := ℕ) (Name := ℕ) (U := UU) (Lvl := ℕ) (Val := Elt F) (τ := τ) osem c : sProp 𝕄)
    = iprop(semVal (cell c (.send 0 0)) 0 ∗ semVal (cell c (.send 0 1)) 0 ∗ semVal (cell c (.send 1 0)) 0 ∗ semVal (cell c (.send 1 1)) 0
      ∗ semVal (cell c (.recv 0 0)) 0 ∗ semVal (cell c (.recv 0 1)) 0 ∗ semVal (cell c (.recv 1 0)) 0 ∗ semVal (cell c (.recv 1 1)) 0
      ∗ semVal (cell c (.cap 0)) 0 ∗ semVal (cell c (.cap 1)) 0 ∗ Cps c) := by
  rw [Pipeline.ownSems0_eq_of_list c osem [0, 1, 2, 3, 4, 5, 6, 7, 8, 9, 10, 11, 12, 13] (by decide) (by decide)]; rfl

theorem unscopedSems0_eq (c : Dev nD) : (unscopedSems0 c : sProp 𝕄) = semVal (cell c .bar) 0 := by
  unfold unscopedSems0; rw [bigSep_eq_bigSepL_of_eq [SemLoc.reg barS] (by decide) (by decide)]; rfl

/-- A device's semaphores at zero: the rings' and the copies'. -/
theorem sems0_eq (c : Dev nD) :
    iprop(Pipeline.ownSems0 (Ix := ℕ) (Name := ℕ) (U := UU) (Lvl := ℕ) (Val := Elt F) (τ := τ) osem c ∗ unscopedSems0 c)
      ⊢ iprop((bigSep Finset.univ fun k : Kd => semVal (cell c k) 0) ∗ (Cps c : sProp 𝕄)) := by
  rw [ownSems0_eq, unscopedSems0_eq, bigSep_univ_eq_bigSepL kds (by decide) (by decide)]
  show _ ⊢ iprop((semVal (cell c .bar) 0 ∗ semVal (cell c (.send 0 0)) 0 ∗ semVal (cell c (.send 0 1)) 0 ∗ semVal (cell c (.send 1 0)) 0
      ∗ semVal (cell c (.send 1 1)) 0
      ∗ semVal (cell c (.recv 0 0)) 0 ∗ semVal (cell c (.recv 0 1)) 0 ∗ semVal (cell c (.recv 1 0)) 0 ∗ semVal (cell c (.recv 1 1)) 0
      ∗ semVal (cell c (.cap 0)) 0 ∗ semVal (cell c (.cap 1)) 0) ∗ Cps c)
  iintro ⟨⟨H1, H2, H3, H4, H5, H6, H7, H8, H9, H10, H11⟩, H0⟩
  isplitr [H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9] <;> iassumption
  iexact H11

/-! ## The launch element, and what is made of it -/

/-- The rings' part of the launch element. -/
def uR : UB × (US × Counters) := (initOf ringCells ringToks, (initSlots (Finset.univ : Finset Key) 4, 1))
/-- The launch element: the pipeline's part and the rings'. -/
def u₀ : UU := (initOf (Pipeline.cells cfgs cellOf_inj) (Pipeline.launchToks cfgs cellOf_inj), uR)

/-- The rings' part waits on device 0 for the launch's one update. -/
def G (c : Dev nD) : sProp 𝕄 := if c = 0 then BI.own ((embR : Emb (UB × (US × Counters)) 𝕄) uR) else iprop(emp)

theorem G_all : BI.own ((embR : Emb (UB × (US × Counters)) 𝕄) uR) ⊢ bigSep Finset.univ (G (F := F)) := by
  rw [bigSep_univ_at _ (0 : Dev nD), bigSep_congr (s := Finset.univ.erase (0 : Dev nD)) (Ψ := fun _ => (BI.emp : sProp 𝕄))
    fun c hc => by unfold G; rw [if_neg (Finset.ne_of_mem_erase hc)]; rfl, BI.bigSep_emp_const]
  unfold G; rw [if_pos rfl]
  iintro H
  isplitl; · iexact H
  iempintro

theorem G_open : bigSep Finset.univ (G (F := F)) ⊢ iprop(BI.own (ER (initOf ringCells ringToks)) ∗ BI.own (ES (initSlots (Finset.univ : Finset Key) 4))) := by
  rw [bigSep_univ_at _ (0 : Dev nD)]
  have h : G (F := F) 0 = BI.own ((embR : Emb (UB × (US × Counters)) 𝕄) (initOf ringCells ringToks, (initSlots (Finset.univ : Finset Key) 4, 1))) := by
    unfold G; rw [if_pos rfl]; rfl
  rw [h]
  iintro ⟨H, -⟩
  ihave H := (own_pair_emb _ _ _) $$ H
  icases H with ⟨H1, H2⟩
  ihave H2 := (own_pair_emb _ _ _) $$ H2
  icases H2 with ⟨H2, -⟩
  isplitl [H1]
  · iexact H1
  iexact H2

/-- The invariants, without the level facts. -/
def Inv0 : sProp 𝕄 := iprop(bigSep Finset.univ (CI m K) ∗ bigSep Finset.univ (fun x : Key => slotInv ES (KS x) x (SL x)))
instance Inv0_persistent : BI.Persistent (Inv0 m K KS) := by unfold Inv0; infer_instance

/-- What the launch's update makes for a device. -/
def G' (c : Dev nD) : sProp 𝕄 := iprop(∃ K KS, Inv0 m K KS ∗ Lin c ∗ Cps c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (BI.sep_mono_l (BI.bigSep_of_persistent S R)).trans ((Entails.of_eq (bigSep_sep' _ _ _).symm).trans (bigSep_mono h))

/-- The cells' invariants made from the counters at zero and the rounds' states. -/
theorem cells_alloc :
    iprop((bigSep Finset.univ fun c : Dev nD => bigSep Finset.univ fun k : Kd => semVal (cell c k) 0)
        ∗ bigSep Finset.univ fun x : Dev nD × Kd => roundState ER (Rd m) (cell x.1 x.2) 0)
      ⊢ (|={Set.univ}=> ∃ K : Dev nD × Kd → ℕ, bigSep Finset.univ fun x => cellInv ER (Rd m) (K x) (cell x.1 x.2) : sProp 𝕄) := by
  rw [← bigSep_univ_prod (fun x : Dev nD × Kd => (semVal (cell x.1 x.2) 0 : sProp 𝕄)), ← bigSep_sep']
  have h : (bigSep Finset.univ fun x : Dev nD × Kd => iprop(semVal (cell x.1 x.2) 0 ∗ roundState ER (Rd m) (cell x.1 x.2) 0))
      ⊢ (|={Set.univ}=> bigSep Finset.univ fun x : Dev nD × Kd => iprop(∃ κ : ℕ, cellInv ER (Rd m) κ (cell x.1 x.2)) : sProp 𝕄) :=
    (bigSep_mono fun x _ => (Rounds.body_intro ER (Rd m) (cell x.1 x.2)).trans inv_alloc).trans (bigSep_fupd _ _)
  exact h.trans (BI.fupd_mono (BI.bigSep_exists_pi Finset.univ (fun (x : Dev nD × Kd) (κ : ℕ) => (cellInv ER (Rd m) κ (cell x.1 x.2) : sProp 𝕄))))

/-- The launch's one update: from every device's semaphores at zero and the launch element, what each device starts from. -/
theorem glob : (bigSep Finset.univ fun c => iprop(Pipeline.ownSems0 (Ix := ℕ) (Name := ℕ) (U := UU) (Lvl := ℕ) (Val := Elt F) (τ := τ) osem c
      ∗ unscopedSems0 c ∗ G c) : sProp 𝕄)
    ⊢ |={Set.univ}=> bigSep Finset.univ (G' m) := by
  have hs : (bigSep Finset.univ fun c => iprop(Pipeline.ownSems0 (Ix := ℕ) (Name := ℕ) (U := UU) (Lvl := ℕ) (Val := Elt F) (τ := τ) osem c
      ∗ unscopedSems0 c ∗ G c) : sProp 𝕄)
      ⊢ iprop(((bigSep Finset.univ fun c : Dev nD => bigSep Finset.univ fun k : Kd => semVal (cell c k) 0) ∗ bigSep Finset.univ fun c : Dev nD => Cps c)
        ∗ bigSep Finset.univ (G (F := F))) := by
    have h1 (c : Dev nD) : iprop(Pipeline.ownSems0 (Ix := ℕ) (Name := ℕ) (U := UU) (Lvl := ℕ) (Val := Elt F) (τ := τ) osem c ∗ unscopedSems0 c ∗ G c)
        ⊢ iprop(((bigSep Finset.univ fun k : Kd => semVal (cell c k) 0) ∗ Cps c) ∗ (G c : sProp 𝕄)) := by
      iintro ⟨Ho, Hu, HG⟩
      isplitr [HG]
      · iapply (sems0_eq c)
        isplitl [Ho] <;> iassumption
      iexact HG
    rw [← bigSep_sep', ← bigSep_sep']
    exact bigSep_mono fun c _ => h1 c
  have hg (K : Dev nD × Kd → ℕ) (KS : Key → ℕ) : iprop(Inv0 m K KS ∗ bigSep Finset.univ fun c : Dev nD => iprop(Lin c ∗ Cps c)) ⊢ bigSep Finset.univ (G' m) :=
    with_persistent fun c _ => by
      unfold G'
      iintro ⟨H1, H2⟩
      iexists K; iexists KS
      isplitl [H1] <;> iassumption
  iintro H
  ihave H := hs $$ H
  icases H with ⟨⟨Hv, Hcp⟩, HG⟩
  ihave HG := (G_open (F := F)) $$ HG
  icases HG with ⟨HX, HY⟩
  imod (Rounds.fund ER (Rd m) ringCells ringToks) $$ HX with ⟨Hst, Hr, Hat, Htok⟩
  imod (slots_init ES (Finset.univ : Finset Key) 4 (fun x => SL x)) $$ HY with ⟨%KS, -, HS, Hrd, Hwt⟩
  ihave Hst := (Entails.of_eq (ringCells_sep fun g => roundState ER (Rd m) g 0)) $$ Hst
  ihave Hat := (Entails.of_eq (ringCells_sep fun g => atPos ER g 0 ∅ 0)) $$ Hat
  ihave Hr := (Entails.of_eq (ringCells_sep fun g => reached ER g 0)) $$ Hr
  imod (cells_alloc m) $$ [Hv Hst] with ⟨%K, HI⟩
  · isplitl [Hv] <;> iassumption
  ihave HL := (deal (F := F)) $$ [Hat Htok Hwt Hrd]
  · isplitl [Hat]; · iexact Hat
    isplitl [Htok]; · iexact Htok
    isplitl [Hwt] <;> iassumption
  imodintro
  iapply (hg K KS)
  isplitl [HI Hr HS]
  · unfold Inv0 CI
    rw [bigSep_sep']
    isplitl [HI Hr]
    · isplitl [HI] <;> iassumption
    iexact HS
  rw [bigSep_sep']
  isplitl [HL] <;> iassumption

end Cert.Ring
-- ==== Proof.Launch.lean ====
/-
The whole run: every device ends with its result at the tiles of the product, its arguments as they were, and every semaphore at zero.
-/
module

public import proofs.«01_k».proof.Proof.Funds
public import Idealize.ShloMosaic.Lib.Pipeline.CollectiveSegs

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]
local notation "𝕄" => MM F

variable (m : (ℓ : Loc nD τ sig) → Buf (Elt F) ℓ) (ρ : Dev nD → PrngReg)
variable (K : Dev nD × Kd → ℕ) (KS : Key → ℕ)

/-- What a device holds before the kernel's one step, beside the staged `B` and what it owes. -/
def Φ₀ (c : Dev nD) : sProp 𝕄 :=
  iprop((∃ K KS, Bun m K KS) ∗ A0 m c ∗ (∃ f, (c : Thread nD τ).loc main_v1 ↦{fullShare} f) ∗ (∃ f, (c : Thread nD τ).loc cc0_scratch0 ↦{fullShare} f)
    ∗ (∃ f, (c : Thread nD τ).loc cc0_scratch1 ↦{fullShare} f) ∗ Cps c ∗ BarG c ∗ DirG 0 c ∗ DirG 1 c)
/-- What it holds after. -/
def Φ₁ (c : Dev nD) : sProp 𝕄 :=
  iprop(A0 m c ∗ (∃ g, ⌜Result m c g⌝ ∗ ((c : Thread nD τ).loc main_v1 ↦{fullShare} g)) ∗ (∃ f, (c : Thread nD τ).loc cc0_scratch0 ↦{fullShare} f)
    ∗ (∃ f, (c : Thread nD τ).loc cc0_scratch1 ↦{fullShare} f) ∗ Cps c ∗ semVal (cell c .bar) 0 ∗ DirZ 0 c ∗ DirZ 1 c)

/-- The proof data of the one pipeline. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => bstg m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The staged `B` with given contents. -/
def stg (c : Dev nD) (X : cc0_stg0_0.ty.Contents (Elt F)) : sProp 𝕄 :=
  iprop(∃ f : Buf (Elt F) ((c : Thread nD τ).loc cc0_stg0_0), ⌜f = X⌝ ∗ (((c : Thread nD τ).loc cc0_stg0_0) ↦{fullShare} f))

def bodyPre (c : Dev nD) : sProp 𝕄 :=
  iprop(Φ₀ m c ∗ (dats m ρ 0 c).owesAt 0 t0_0.castSucc ∗ ∃ d, stg c ((dats m ρ 0 c).before (0 : Fin 1) t0_0 d))
def bodyPost (c : Dev nD) : sProp 𝕄 :=
  iprop(Φ₁ m c ∗ (dats m ρ 0 c).owesAt 0 t0_0.succ ∗ stg c (bstg m c))

theorem before_eq (c : Dev nD) (d) : (dats m ρ 0 c).before (0 : Fin 1) t0_0 d = bstg m c := by
  unfold Dat.before; rw [if_pos (fetch0_0 _)]; rfl

theorem start_of (c : Dev nD) : bodyPre m ρ c ⊢ iprop(∃ K KS, Start m K KS c) := by
  unfold bodyPre Φ₀ stg
  iintro ⟨⟨⟨%K, %KS, HB⟩, HA, Ho, Hc, Ht, Hcp, Hbar, Hd0, Hd1⟩, Hw, ⟨%d, %f, %hf, Hs⟩⟩
  rw [before_eq] at hf
  subst hf
  unfold Dat.owesAt Pipeline.owesWithin
  icases Hw with ⟨%W, -, HO⟩
  iexists K; iexists KS
  unfold Start
  isplitl [HB]; · iexact HB
  isplitl [HA]; · iexact HA
  isplitl [Ho]; · iexact Ho
  isplitl [Hc]; · iexact Hc
  isplitl [Ht]; · iexact Ht
  isplitl [Hcp]; · iexact Hcp
  isplitl [Hs]; · unfold BO; iexact Hs
  isplitl [Hbar]; · iexact Hbar
  isplitl [Hd0]; · iexact Hd0
  isplitl [Hd1]; · iexact Hd1
  unfold OW
  iexists W
  iexact HO

theorem post_of (c : Dev nD) : Done m c ⊢ bodyPost m ρ c := by
  unfold Done bodyPost Φ₁ stg OW
  iintro ⟨HA, Ho, Hc, Ht, Hcp, Hb, Hz, Hd0, Hd1, ⟨%W, HO⟩⟩
  isplitr [HO Hb]
  · isplitl [HA]; · iexact HA
    isplitl [Ho]; · iexact Ho
    isplitl [Hc]; · iexact Hc
    isplitl [Ht]; · iexact Ht
    isplitl [Hcp]; · iexact Hcp
    isplitl [Hz]; · iexact Hz
    isplitl [Hd0] <;> iassumption
  isplitl [HO]
  · unfold Dat.owesAt Pipeline.owesWithin
    iexists W
    isplitr; · ipureintro; exact fun _ _ => Or.inl trivial
    iexact HO
  iexists (bstg m c)
  isplitr; · ipureintro; rfl
  unfold BO; iexact Hb

theorem body_all (c : Dev nD) : bodyPre m ρ c ⊢ WP c (cc0_body (F := F) aM (Memref.isWhole_whole _) bM (Memref.isWhole_whole _) oM (Memref.isWhole_whole _)
      cM (Memref.isWhole_whole _) tM (Memref.isWhole_whole _) cc0_scratch2 cc0_scratch3 cc0_scratch4 cc0_scratch5 cc0_scratch6 cc0_scratch7 cc0_scratch8)
      (fun _ => bodyPost m ρ c) := by
  have h (K : Dev nD × Kd → ℕ) (KS : Key → ℕ) := (body m K KS c).trans (wp_mono _ _ _ fun _ => post_of m ρ c)
  iintro H
  ihave H := (start_of m ρ c) $$ H
  icases H with ⟨%K, %KS, H⟩
  iapply (h K KS)
  iexact H

set_option maxRecDepth 4000 in
/-- The kernel's one step, from what the pipeline gives it to what the pipeline takes back. -/
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  exact body_all m ρ c

theorem share_eq (c : Dev nD) (w : Fin cfg0.W) : (dats m ρ 0 c).share w = fullShare := by unfold Dat.share; split <;> rfl

/-! ## Into the step and out of it -/

/-- What a device starts from, without its scratch. -/
def X (c : Dev nD) : sProp 𝕄 :=
  iprop((∃ K KS, Bun m K KS) ∗ A0 m c ∗ (∃ f, (c : Thread nD τ).loc main_v1 ↦{fullShare} f) ∗ Cps c ∗ BarG c ∗ DirG 0 c ∗ DirG 1 c)
/-- What is read of a device at the end. -/
def Y (c : Dev nD) : sProp 𝕄 :=
  iprop(unscopedSems0 c ∗ A0 m c ∗ ∃ g, ⌜Result m c g⌝ ∗ ((c : Thread nD τ).loc main_v1 ↦{fullShare} g))

theorem dir_of (d : Fin 2) (c : Dev nD) : iprop(DirT d c ∗ CredR d c ∗ CapF d c 0) ⊢ (DirG d c : sProp 𝕄) := by
  unfold DirT DirG CredR Fut
  rw [← Finset.range_eq_Ico, bigSep_sep']
  iintro ⟨⟨Hat, Htok, Hd, Hr0, Hr1⟩, Hc, Hcap⟩
  isplitl [Hat]; · iexact Hat
  isplitl [Htok Hc]
  · isplitl [Htok] <;> iassumption
  isplitl [Hcap]; · iexact Hcap
  isplitl [Hd]; · iexact Hd
  isplitl [Hr0] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ (emp : sProp 𝕄)) := by
  rw [Pipeline.unscopedRestP_none, unscopedRest0_eq]
  unfold G' Inv0 Lin
  iintro ⟨⟨HA, Ho⟩, Hlev, Hcr, -, ⟨%K, %KS, ⟨HI, HS⟩, ⟨Hb, Ht0, Ht1⟩, Hcp⟩⟩
  ihave Hc := (credits (F := F) c) $$ Hcr
  icases Hc with ⟨Hcb, Hc0, Hc1⟩
  imodintro
  isplitr []
  · unfold X
    isplitl [HI HS Hlev]
    · iexists K; iexists KS
      unfold Bun
      isplitl [HI]; · iexact HI
      isplitl [HS] <;> iassumption
    isplitl [HA]; · unfold A0; iexact HA
    isplitl [Ho]; · iexists (m ((c : Thread nD τ).loc main_v1)); iexact Ho
    isplitl [Hcp]; · iexact Hcp
    isplitl [Hb Hcb]
    · unfold BarG BarT
      icases Hb with ⟨H1, H2, H3⟩
      isplitl [H1]; · iexact H1
      isplitl [H2]; · iexact H2
      isplitl [H3] <;> iassumption
    isplitl [Ht0 Hc0]
    · iapply (dir_of (F := F) 0 c)
      isplitl [Ht0] <;> iassumption
    iapply (dir_of (F := F) 1 c)
    isplitl [Ht1] <;> iassumption
  · iempintro

theorem phi0_intro (c : Dev nD) :
    iprop(X m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ X
  iintro ⟨⟨H1, H2, H3, H4, H5⟩, -, ⟨Hc, Ht⟩⟩
  isplitl [H1]; · iexact H1
  isplitl [H2]; · iexact H2
  isplitl [H3]; · iexact H3
  isplitl [Hc]; · iexact Hc
  isplitl [Ht]; · iexact Ht
  isplitl [H4]; · iexact H4
  iexact H5

theorem phi1_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ Y DirZ
  rw [unscopedSems0_eq]
  iintro ⟨HA, Ho, Hc, Ht, Hcp, Hb, ⟨H1, H2, H3, H4, H5⟩, ⟨H6, H7, H8, H9, H10⟩⟩
  isplitl [HA Ho Hb]
  · isplitl [Hb]; · iexact Hb
    isplitl [HA] <;> iassumption
  isplitr [Hc Ht]
  · isplitl [H1]; · iexact H1
    isplitl [H2]; · iexact H2
    isplitl [H6]; · iexact H6
    isplitl [H7]; · iexact H7
    isplitl [H3]; · iexact H3
    isplitl [H4]; · iexact H4
    isplitl [H8]; · iexact H8
    isplitl [H9]; · iexact H9
    isplitl [H5]; · iexact H5
    isplitl [H10] <;> iassumption
  isplitl [Hc] <;> iassumption

/-- All that is owed at launch lies above the pipeline's own waits. -/
theorem O₀_low (c : Dev nD) : Low (O₀ c) 0 :=
  Low_add (Low_add (Low_mono (Low_Ob c le_rfl le_rfl le_rfl le_rfl) (Nat.zero_le _))
    (Low_tally _ .bar 0 1 0 (by omega) (by rw [lv_cell]; exact Nat.one_pos))) (Low_tally _ .bar 0 1 0 (by omega) (by rw [lv_cell]; exact Nat.one_pos))

theorem lv_stage (c : Dev nD) (w : Fin cfg0.W) (s : Fin (cfg0.win w).nbuf) : lv ((c : Thread nD τ), .dma ((cfg0.win w).sem s)) 0 = 0 := by
  fin_cases w; fin_cases s; rfl

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait (n := 0) (O₀_low c) c _ _ (by omega) (le_of_eq (lv_stage c w s))
    · exact mayWait (n := 0) (Low_zero 0) c _ _ (by omega) (le_of_eq (lv_stage c w s))

/-! ## The run -/

/-- What the run leaves on a device. -/
def Left (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ Result m c (s.mem ((c : Thread nD τ).loc main_v1))

theorem left_of (c : Dev nD) (s' : Phys nD τ sig (Elt F)) :
    iprop(Y m c ∗ emp ∗ SI s') ⊢ |={Set.univ}=> iprop(⌜Left m c s'.mem⌝ ∗ (SI s' : sProp 𝕄)) := by
  unfold Y A0
  iintro ⟨⟨Hu, HA, ⟨%g, %hg, Ho⟩⟩, -, HSI⟩
  icombine HSI HA gives %h0
  icombine HSI Ho gives %h1
  imod (Pipeline.unscopedSems0_read (X := unscopedSems0 c) (c := c) fupd_intro s') $$ [Hu HSI] with ⟨%h2, HSI⟩
  · isplitl [Hu] <;> iassumption
  imodintro
  isplitr
  · ipureintro
    exact ⟨h2, Buf.eq_of_forall_mem_univ h0, by rw [Buf.eq_of_forall_mem_univ h1]; exact hg⟩
  iexact HSI

set_option maxRecDepth 8000 in
/-- For any float values, from any memory with every counter at zero: every fair execution of the eight devices' kernels ends, and each
    device's result is the tiles of the product, its arguments are as they were and every semaphore is at zero. -/
theorem run_main : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ Result m c (r.2.mem ((c : Thread nD τ).loc main_v1))) ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => (body_obligation m ρ c)) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G) (G' := G' m) (u₀ := u₀)
    (hu₀ := by
      unfold u₀
      iintro Hu
      ihave H := (ownU_pair _ _) $$ Hu
      icases H with ⟨HP, HX⟩
      ihave HG := (G_all (F := F)) $$ HX
      imodintro
      isplitl [HP] <;> iassumption)
    (hglob := glob m)
    (hA := fun _ _ => rfl) (hpf := fun _ k => k.elim0)
    (X := X m) (Y := Y m) (Z := fun _ => iprop(emp))
    (hX := start_intro m ρ) (hin := phi0_intro m ρ) (hout := phi1_exit m ρ)
    (QY := Left m) (hY := left_of m)
    (hQ := fun _ h hs => ⟨fun c => ⟨(h c).2.2.2.1, ((h c).1 (0 : Fin 1)).trans ((dats m ρ 0 c).arrAt_in (0 : Fin 1) rfl _), (h c).2.2.2.2⟩,
      sem_eq_zero hs fun c => (h c).2.2.1⟩)

end Cert.Ring
-- ==== Proof.Value.lean ====
/-
The value: what the tiles of the result hold is the product of the whole `A` with `B`, read at each index over the extended reals.
-/
module
public import proofs.«01_k».proof.Proof.Launch
public import proofs.«01_k».proof.Proof.Gen.ReferenceIdeal.Run
public import Idealize.ShloMosaic.Lib.Layout
public import Idealize.ShloMosaic.Lib.StackMember
public import Idealize.ShloMosaic.Lib.KernelVsHost
public import Idealize.ShloMosaic.Lib.Pipeline.Value

@[expose] public section

noncomputable section
namespace Cert.Ring
open Cert.KernelIdeal Cert.KernelIdeal.Gen
open Idealize.ShloMosaic
open Idealize.ShloMosaic.TcCoe
open Idealize.ShloMosaic.ValueIdx
open Idealize.ShloMosaic.StackMember (dotGeneral_plain_apply)
open scoped BigOperators

/-- The whole product as the reference computes it: contracted at f32, rounded to bf16. -/
def product (A : FVec Ideal ⟨2, ![24576, 1536]⟩ .bf16) (B : FVec Ideal ⟨2, ![1536, 3072]⟩ .bf16) : FVec Ideal ⟨2, ![24576, 3072]⟩ .bf16 :=
  truncf .bf16 (Host.dotGeneral Cert.ReferenceIdeal.dot_S24576x1536_S1536x3072_S24576x3072_1_0_0_1_n_n none A B) Cert.ReferenceIdeal.Gen.bitsLt_bf16_f32

/-- The reference's product at an index: the sum over the contracted coordinate. -/
theorem product_apply (A : FVec Ideal ⟨2, ![24576, 1536]⟩ .bf16) (B : FVec Ideal ⟨2, ![1536, 3072]⟩ .bf16) (a : Fin 24576) (b : Fin 3072) :
    product A B (ix2 a b) = ∑ k : Fin 1536, A (ix2 a k) * B (ix2 k b) :=
  dotGeneral_plain_apply none A B a b

/-- The kernel's product of two tiles at an index: the same sum over the tiles. -/
theorem mm_apply (X Y : Tile Ideal) (a b : Fin 1536) : mm X Y (ix2 a b) = ∑ k : Fin 1536, X (ix2 a k) * Y (ix2 k b) := by
  unfold mm
  rw [shapeCast_self, shapeCast_self]
  have h := matmul_zero_eq_dotGeneral (DotDims.plain 1536 1536 1536) none (φ₁ := .bf16) (φ₂ := .bf16) X Y
  exact (congrFun h (ix2 a b)).trans (dotGeneral_plain_apply none X Y a b)

variable (m : (ℓ : Loc nD τ sig) → Buf (Elt Ideal) ℓ)

/-- A half of a device's block of `A` at an index. -/
theorem half_apply (d : Fin 2) (e : Dev nD) (r k : Fin 1536) :
    half m d e (ix2 r k) = m ((e : Thread nD τ).loc main_arg0) (ix2 (n0 := 3072) (n1 := 1536) ⟨1536 * d.val + r.val, by omega⟩ k) := by
  unfold half
  rw [View.read_apply]
  refine congrArg (m ((e : Thread nD τ).loc main_arg0)) (funext fun a => Fin.ext ?_)
  match a with
  | ⟨0, _⟩ => show 1536 * d.val + 1 * r.val = _; rw [Nat.one_mul]
  | ⟨1, _⟩ => show 0 + 1 * k.val = k.val; omega

/-- `B` is staged whole. -/
theorem bstg_apply (c : Dev nD) (i : S1536x3072.Idx) : bstg m c i = m ((c : Thread nD τ).loc main_arg1) i := by
  unfold bstg
  rw [View.read_apply]
  refine congrArg (m ((c : Thread nD τ).loc main_arg1)) (funext fun a => Fin.ext ?_)
  show 0 * _ + 1 * (i a).val = (i a).val
  omega

/-- A column tile of `B` at an index. -/
theorem bcol_apply (j : Fin 2) (c : Dev nD) (k q : Fin 1536) :
    bcol m j c (ix2 k q) = m ((c : Thread nD τ).loc main_arg1) (ix2 (n0 := 1536) (n1 := 3072) k ⟨1536 * j.val + q.val, by omega⟩) := by
  unfold bcol
  rw [View.read_apply]
  refine (bstg_apply m c _).trans ?_
  refine congrArg (m ((c : Thread nD τ).loc main_arg1)) (funext fun a => Fin.ext ?_)
  match a with
  | ⟨0, _⟩ => show 0 + 1 * k.val = k.val; omega
  | ⟨1, _⟩ => show 1536 * j.val + 1 * q.val = _; rw [Nat.one_mul]

/-- The tiles put together are the whole product, when each device holds its block of `A` and all of `B`. -/
theorem result_eq (A : FVec Ideal ⟨2, ![24576, 1536]⟩ .bf16) (B : FVec Ideal ⟨2, ![1536, 3072]⟩ .bf16)
    (hA : ∀ e : Dev nD, m ((e : Thread nD τ).loc main_arg0) = Layout.block ⟨2, ![3072, 1536]⟩ ⟨2, ![24576, 1536]⟩ 0 8 e A)
    (c : Dev nD) (hB : m ((c : Thread nD τ).loc main_arg1) = B)
    (g : (main_v1 : Ref sig .tc).ty.Contents (Elt Ideal)) (hg : Result m c g) : g = product A B := by
  funext i
  obtain ⟨⟨⟨d, j⟩, e⟩, hi⟩ := oV_cover i
  obtain ⟨x, -, rfl⟩ := Finset.mem_map.mp hi
  obtain ⟨r, q, rfl⟩ : ∃ r q : Fin 1536, x = ix2 r q := ⟨x 0, x 1, eq_ix2 x⟩
  have h := congrFun (hg d j e) (ix2 r q)
  rw [View.read_apply] at h
  have he : e.val < 8 := e.isLt
  have hx : (oV d j e).view.emb (ix2 r q) = ix2 (n0 := 24576) (n1 := 3072) ⟨3072 * e.val + 1536 * d.val + r.val, by omega⟩ ⟨1536 * j.val + q.val, by omega⟩ := by
    refine funext fun a => Fin.ext ?_
    match a with
    | ⟨0, _⟩ => show 3072 * e.val + 1536 * d.val + 1 * r.val = _; rw [Nat.one_mul]
    | ⟨1, _⟩ => show 1536 * j.val + 1 * q.val = _; rw [Nat.one_mul]
  refine (show g ((oV d j e).view.emb (ix2 r q)) = _ from h).trans ?_
  refine (mm_apply _ _ r q).trans (Eq.trans ?_ (congrArg (product A B) hx.symm))
  refine Eq.trans ?_ (product_apply A B _ _).symm
  refine Finset.sum_congr rfl fun k _ => ?_
  rw [half_apply, bcol_apply, hA, hB, Layout.block_apply]
  refine congrArg (fun t => A t * _) (funext fun a => Fin.ext ?_)
  match a with
  | ⟨0, _⟩ => show e.val * 3072 + (1536 * d.val + r.val) = 3072 * e.val + 1536 * d.val + r.val; omega
  | ⟨1, _⟩ => rfl

end Cert.Ring
-- ==== Proof.lean ====
/-
The claims: the kernel runs and leaves its arguments and semaphores as they were, at the machine's floats and at the extended reals;
the reference does; and, at the extended reals, every device's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent

@[expose] public section

noncomputable section

namespace Cert.Proof

open Idealize.ShloMosaic Idealize.SL.Sem

set_option maxRecDepth 8000 in
/-- The two prints of the kernel's body are one program. -/
theorem body_eq (a0 h0 a1 h1 a2 h2 a3 h3 a4 h4 a5 a6 a7 a8 a9 a10 a11) : Cert.Kernel.cc0_body (F := Bits) a0 h0 a1 h1 a2 h2 a3 h3 a4 h4 a5 a6 a7 a8 a9 a10 a11
    = Cert.KernelIdeal.cc0_body (F := Bits) a0 h0 a1 h1 a2 h2 a3 h3 a4 h4 a5 a6 a7 a8 a9 a10 a11 := rfl

set_option maxRecDepth 8000 in
/-- And so are the two tables of bodies, -/
theorem defs₀_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => exact body_eq _ _ _ _ _ _ _ _ _ _ _ _ _ _ _ _ _
  | ⟨_ + 1, h⟩, _ => exact absurd h (Nat.not_lt.2 (Nat.le_add_left _ _))

/-- with the pipeline's. -/
theorem defs_eq : Cert.Kernel.defs (F := Bits) = Cert.KernelIdeal.defs (F := Bits) := congrArg (Pipeline.defs Cert.KernelIdeal.pcfgs) defs₀_eq

set_option maxRecDepth 8000 in
/-- The kernel at the machine's floats runs, and leaves its arguments and every semaphore as they were. -/
theorem frame_kernel : Cert.quiescent_Kernel := fun m ρ _ => by
  rw [defs_eq]
  exact (θ_run Cert.KernelIdeal.defs _ _).mono (fun _ h => ⟨fun c => ⟨(h.1 c).1, (h.1 c).2.1⟩, h.2⟩) (Cert.Ring.run_main (F := Bits) m ρ)

/-- The same at the extended reals. -/
theorem frame_ideal : Cert.quiescent_KernelIdeal := fun m ρ _ =>
  (θ_run Cert.KernelIdeal.defs _ _).mono (fun _ h => ⟨fun c => ⟨(h.1 c).1, (h.1 c).2.1⟩, h.2⟩) (Cert.Ring.run_main (F := Ideal) m ρ)

/-- The reference has no semaphore. -/
theorem no_sems (s : GSem Cert.ReferenceIdeal.nD Cert.ReferenceIdeal.τ Cert.ReferenceIdeal.sig) : False := by
  rcases s with ⟨_, sm⟩
  rcases sm with ⟨i, hi⟩ | ⟨i, hi⟩ <;> exact absurd hi (Nat.not_lt_zero i)

/-- The reference runs, and leaves its arguments as they were. -/
theorem frame_reference : Cert.quiescent_ReferenceIdeal := fun m ρ _ =>
  (θ_run Cert.ReferenceIdeal.defs _ _).mono (fun _ h => ⟨fun c => (h c).2, funext fun s => (no_sems s).elim⟩) (Cert.ReferenceIdeal.Value.run (F := Ideal) m ρ)

/-- Every device's result is the reference's: the product of the whole `A` with `B`. -/
theorem algebraic : Cert.algebraic_KernelIdeal_ReferenceIdeal := fun m g m' g' _ hm =>
  ⟨Cert.Ring.product (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun r h c =>
      ⟨Cert.Ring.result_eq m _ _ (fun e => (hm e).1) c (hm c).2 _ (h.1 c).2.2, (h.1 c).1, (h.1 c).2.1⟩) (Cert.Ring.run_main (F := Ideal) m g),
    (θ_run Cert.ReferenceIdeal.defs _ _).mono (fun r h => h 0) (Cert.ReferenceIdeal.Value.run (F := Ideal) m' g')⟩

/-- All the claims. -/
theorem claim : Cert.Claim :=
  ⟨Cert.Kernel.Gen.facts, Cert.KernelIdeal.Gen.facts, Cert.ReferenceIdeal.Gen.facts, frame_kernel, frame_ideal, frame_reference, trivial, algebraic⟩

end Cert.Proof

end
